-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S300x41 : Shape := ⟨2, ![300, 41]⟩
abbrev S300x128x224 : Shape := ⟨3, ![300, 128, 224]⟩
abbrev S_ : Shape := ⟨0, ![]⟩
abbrev S300 : Shape := ⟨1, ![300]⟩
abbrev S300x1 : Shape := ⟨2, ![300, 1]⟩
abbrev S300x40 : Shape := ⟨2, ![300, 40]⟩
abbrev S1x300 : Shape := ⟨2, ![1, 300]⟩
abbrev S300x8x224 : Shape := ⟨3, ![300, 8, 224]⟩
abbrev S16x300x8x224 : Shape := ⟨4, ![16, 300, 8, 224]⟩
abbrev S300x300 : Shape := ⟨2, ![300, 300]⟩
abbrev S2x2x300x8x224 : Shape := ⟨5, ![2, 2, 300, 8, 224]⟩
abbrev S2x2 : Shape := ⟨2, ![2, 2]⟩
abbrev S1x300x8x224 : Shape := ⟨4, ![1, 300, 8, 224]⟩
abbrev S300x1792 : Shape := ⟨2, ![300, 1792]⟩
abbrev S1x300x1 : Shape := ⟨3, ![1, 300, 1]⟩
abbrev S1 : Shape := ⟨1, ![1]⟩
abbrev S1x1x1 : Shape := ⟨3, ![1, 1, 1]⟩
abbrev S1x300x300 : Shape := ⟨3, ![1, 300, 300]⟩
abbrev S1x1x300 : Shape := ⟨3, ![1, 1, 300]⟩
abbrev S300x1x1 : Shape := ⟨3, ![300, 1, 1]⟩
abbrev S1x1 : Shape := ⟨2, ![1, 1]⟩
abbrev S1x1x300x8x224 : Shape := ⟨5, ![1, 1, 300, 8, 224]⟩

abbrev nBuf : Space → Nat
  | .hbm => 21
  | .vmem => 11
  | .smem => 0
  | _ => 0

abbrev bufTy : (tb : Table) → Fin (tcTables nBuf tb) → BufTy
  | .hbm, ⟨0, _⟩ => ⟨S300x41, .f32⟩
  | .hbm, ⟨1, _⟩ => ⟨S300x128x224, .f32⟩
  | .hbm, ⟨2, _⟩ => ⟨S_, .f32⟩
  | .hbm, ⟨3, _⟩ => ⟨S300, .f32⟩
  | .hbm, ⟨4, _⟩ => ⟨S_, .f32⟩
  | .hbm, ⟨5, _⟩ => ⟨S300, .f32⟩
  | .hbm, ⟨6, _⟩ => ⟨S300, .f32⟩
  | .hbm, ⟨7, _⟩ => ⟨S300x1, .f32⟩
  | .hbm, ⟨8, _⟩ => ⟨S300x41, .f32⟩
  | .hbm, ⟨9, _⟩ => ⟨S300x41, .f32⟩
  | .hbm, ⟨10, _⟩ => ⟨S300x41, .f32⟩
  | .hbm, ⟨11, _⟩ => ⟨S_, .f32⟩
  | .hbm, ⟨12, _⟩ => ⟨S300, .f32⟩
  | .hbm, ⟨13, _⟩ => ⟨S300x1, .f32⟩
  | .hbm, ⟨14, _⟩ => ⟨S300x41, .f32⟩
  | .hbm, ⟨15, _⟩ => ⟨S300x41, .f32⟩
  | .hbm, ⟨16, _⟩ => ⟨S300x40, .f32⟩
  | .hbm, ⟨17, _⟩ => ⟨S_, .f32⟩
  | .hbm, ⟨18, _⟩ => ⟨S300, .f32⟩
  | .hbm, ⟨19, _⟩ => ⟨S1x300, .f32⟩
  | .hbm, ⟨20, _⟩ => ⟨S300x128x224, .f32⟩
  | .local _ .vmem, ⟨0, _⟩ => ⟨S1x300, .f32⟩
  | .local _ .vmem, ⟨1, _⟩ => ⟨S300x8x224, .f32⟩
  | .local _ .vmem, ⟨2, _⟩ => ⟨S300x8x224, .f32⟩
  | .local _ .vmem, ⟨3, _⟩ => ⟨S300x8x224, .f32⟩
  | .local _ .vmem, ⟨4, _⟩ => ⟨S300x8x224, .f32⟩
  | .local _ .vmem, ⟨5, _⟩ => ⟨S16x300x8x224, .bf16⟩
  | .local _ .vmem, ⟨6, _⟩ => ⟨S300x300, .f32⟩
  | .local _ .vmem, ⟨7, _⟩ => ⟨S300x300, .f32⟩
  | .local _ .vmem, ⟨8, _⟩ => ⟨S300x1, .f32⟩
  | .local _ .vmem, ⟨9, _⟩ => ⟨S300x300, .f32⟩
  | .local _ .vmem, ⟨10, _⟩ => ⟨S2x2x300x8x224, .f32⟩
  | _, _ => ⟨S300x41, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) (c0_i32_6 : BitVec 32) : Fin 4 → Nat :=
  let arg0 : BitVec 32 := BitVec.ofNat 32 (i 0).val
  let v12 : BitVec 32 := Scalar.addi c0_i32_6 arg0
  let v13 : Index := Scalar.indexCast v12
  let c0_7 : Index := 0#32
  let c0_8 : Index := 0#32
  let c0_9 : Index := 0#32
  ![v13.toNat, 0, 0, 0]
def k0_cond4 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_30 : BitVec 32 := 0#32
  let c300_i32 : BitVec 32 := 300#32
  let v99 : BitVec 32 := Scalar.addi c0_i32_30 c300_i32
  let c1_i32 : BitVec 32 := 1#32
  ⟨c0_i32_30, v99, c1_i32⟩
def k0_off2 (k0_t1 : Fin k0_t1_loop.trips) : Fin 2 → Nat :=
  let c0_i32_30 : BitVec 32 := 0#32
  let c1_i32 : BitVec 32 := 1#32
  let arg12 : BitVec 32 := Scf.iv c0_i32_30 c1_i32 k0_t1
  let v101 : Index := Scalar.indexCast arg12
  let c0_32 : Index := 0#32
  ![v101.toNat, 0]
def k0_cond6 (i : grid0.Coords) : BitVec 1 :=
  let arg0 : BitVec 32 := BitVec.ofNat 32 (i 0).val
  let c8_i32_2 : BitVec 32 := 8#32
  let v6 : BitVec 1 := Scalar.cmpi .sgt arg0 c8_i32_2
  let v7 : BitVec 32 := Scalar.extui v6
  let c0_i32_3 : BitVec 32 := 0#32
  let v8 : BitVec 1 := Scalar.cmpi .ne v7 c0_i32_3
  v8

def k0_cond7 (i : grid0.Coords) : BitVec 1 :=
  let arg0 : BitVec 32 := BitVec.ofNat 32 (i 0).val
  let c9_i32 : BitVec 32 := 9#32
  let v9 : BitVec 32 := Scalar.subi arg0 c9_i32
  let c2_i32_7 : BitVec 32 := 2#32
  let v15 : BitVec 1 := Scalar.cmpi .sge v9 c2_i32_7
  let v16 : BitVec 32 := Scalar.extui v15
  let c0_i32_8 : BitVec 32 := 0#32
  let v17 : BitVec 1 := Scalar.cmpi .ne v16 c0_i32_8
  v17

def k0_off3 (i : grid0.Coords) : Fin 2 → Nat :=
  let c0_i32_45 : BitVec 32 := 0#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  ![0, v10.toNat]
def k0_off4 (i : grid0.Coords) (c0_i32_42 : BitVec 32) : Fin 3 → Nat :=
  let c0_i32_46 : BitVec 32 := 0#32
  let c8_i32_43 : BitVec 32 := 8#32
  let arg0 : BitVec 32 := BitVec.ofNat 32 (i 0).val
  let c9_i32 : BitVec 32 := 9#32
  let v9 : BitVec 32 := Scalar.subi arg0 c9_i32
  let c2_i32_41 : BitVec 32 := 2#32
  let v55 : BitVec 32 := Scalar.subi v9 c2_i32_41
  let v56 : BitVec 32 := Scalar.addi v55 c0_i32_42
  let v57 : BitVec 32 := Scalar.muli c8_i32_43 v56
  let c0_i32_47 : BitVec 32 := 0#32
  ![0, v57.toNat, 0]
def k0_off5 (i : grid0.Coords) : Fin 5 → Nat :=
  let c0_i32_44 : BitVec 32 := 0#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let c0_i32_48 : BitVec 32 := 0#32
  let c0_i32_49 : BitVec 32 := 0#32
  let c0_i32_50 : BitVec 32 := 0#32
  ![0, v10.toNat, 0, 0, 0]
def k0_off6 (i : grid0.Coords) : Fin 2 → Nat :=
  let c1_i32_55 : BitVec 32 := 1#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  ![1, v10.toNat]
def k0_off7 (i : grid0.Coords) : Fin 5 → Nat :=
  let c1_i32_54 : BitVec 32 := 1#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let c0_i32_58 : BitVec 32 := 0#32
  let c0_i32_59 : BitVec 32 := 0#32
  let c0_i32_60 : BitVec 32 := 0#32
  ![1, v10.toNat, 0, 0, 0]
def k0_off8 (i : grid0.Coords) (c0_i32_9 : BitVec 32) : Fin 4 → Nat :=
  let arg0 : BitVec 32 := BitVec.ofNat 32 (i 0).val
  let c9_i32 : BitVec 32 := 9#32
  let v9 : BitVec 32 := Scalar.subi arg0 c9_i32
  let v18 : BitVec 32 := Scalar.addi v9 c0_i32_9
  let v19 : Index := Scalar.indexCast v18
  let c0_10 : Index := 0#32
  let c0_11 : Index := 0#32
  let c0_12 : Index := 0#32
  ![v19.toNat, 0, 0, 0]
def k0_off9 (i : grid0.Coords) : Fin 5 → Nat :=
  let c0_13 : Index := 0#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let v25 : Index := Scalar.indexCast v10
  let c0_14 : Index := 0#32
  let c0_15 : Index := 0#32
  let c0_16 : Index := 0#32
  ![0, v25.toNat, 0, 0, 0]
def k0_off10 (i : grid0.Coords) : Fin 2 → Nat :=
  let c0_i32_19 : BitVec 32 := 0#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  ![0, v10.toNat]
def k0_off11 (i : grid0.Coords) (c0_i32_9 : BitVec 32) : Fin 3 → Nat :=
  let c0_i32_20 : BitVec 32 := 0#32
  let c8_i32_17 : BitVec 32 := 8#32
  let arg0 : BitVec 32 := BitVec.ofNat 32 (i 0).val
  let c9_i32 : BitVec 32 := 9#32
  let v9 : BitVec 32 := Scalar.subi arg0 c9_i32
  let v18 : BitVec 32 := Scalar.addi v9 c0_i32_9
  let v29 : BitVec 32 := Scalar.muli c8_i32_17 v18
  let c0_i32_21 : BitVec 32 := 0#32
  ![0, v29.toNat, 0]
def k0_off12 (i : grid0.Coords) : Fin 5 → Nat :=
  let c0_i32_18 : BitVec 32 := 0#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let c0_i32_22 : BitVec 32 := 0#32
  let c0_i32_23 : BitVec 32 := 0#32
  let c0_i32_24 : BitVec 32 := 0#32
  ![0, v10.toNat, 0, 0, 0]
def k0_off13 (i : grid0.Coords) : Fin 5 → Nat :=
  let c1 : Index := 1#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let v42 : Index := Scalar.indexCast v10
  let c0_30 : Index := 0#32
  let c0_31 : Index := 0#32
  let c0_32 : Index := 0#32
  ![1, v42.toNat, 0, 0, 0]
def k0_off14 (i : grid0.Coords) : Fin 2 → Nat :=
  let c1_i32_34 : BitVec 32 := 1#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  ![1, v10.toNat]
def k0_off15 (i : grid0.Coords) : Fin 5 → Nat :=
  let c1_i32 : BitVec 32 := 1#32
  let arg0 : BitVec 32 := BitVec.ofNat 32 (i 0).val
  let c9_i32 : BitVec 32 := 9#32
  let v9 : BitVec 32 := Scalar.subi arg0 c9_i32
  let c2_i32 : BitVec 32 := 2#32
  let v10 : BitVec 32 := Scalar.remsi v9 c2_i32
  let c0_i32_37 : BitVec 32 := 0#32
  let c0_i32_38 : BitVec 32 := 0#32
  let c0_i32_39 : BitVec 32 := 0#32
  ![1, v10.toNat, 0, 0, 0]
def k0_cond8 (i : grid0.Coords) : BitVec 1 :=
  let arg0 : BitVec 32 := BitVec.ofNat 32 (i 0).val
  let c9_i32 : BitVec 32 := 9#32
  let v9 : BitVec 32 := Scalar.subi arg0 c9_i32
  let c7_i32 : BitVec 32 := 7#32
  let v52 : BitVec 1 := Scalar.cmpi .eq v9 c7_i32
  let v53 : BitVec 32 := Scalar.extui v52
  let c0_i32_40 : BitVec 32 := 0#32
  let v54 : BitVec 1 := Scalar.cmpi .ne v53 c0_i32_40
  v54

def k0_off16 (i : grid0.Coords) (c0_i32_42 : BitVec 32) (c0_i32_43 : BitVec 32) : Fin 3 → Nat :=
  let c0_i32_49 : BitVec 32 := 0#32
  let c8_i32_44 : BitVec 32 := 8#32
  let arg0 : BitVec 32 := BitVec.ofNat 32 (i 0).val
  let c9_i32 : BitVec 32 := 9#32
  let v9 : BitVec 32 := Scalar.subi arg0 c9_i32
  let c1_i32_41 : BitVec 32 := 1#32
  let v55 : BitVec 32 := Scalar.subi v9 c1_i32_41
  let v56 : BitVec 32 := Scalar.addi v55 c0_i32_42
  let v57 : BitVec 32 := Scalar.addi v56 c0_i32_43
  let v58 : BitVec 32 := Scalar.muli c8_i32_44 v57
  let c0_i32_50 : BitVec 32 := 0#32
  ![0, v58.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.addi v0 c8_i32
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S1x300 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S300x8x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S300x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S300x41 : Shape := ⟨2, ![300, 41]⟩
abbrev S300x128x224 : Shape := ⟨3, ![300, 128, 224]⟩
abbrev S_ : Shape := ⟨0, ![]⟩
abbrev S300 : Shape := ⟨1, ![300]⟩
abbrev S300x1 : Shape := ⟨2, ![300, 1]⟩
abbrev S300x40 : Shape := ⟨2, ![300, 40]⟩
abbrev S1 : Shape := ⟨1, ![1]⟩
abbrev S300x28672 : Shape := ⟨2, ![300, 28672]⟩
abbrev S28672x300 : Shape := ⟨2, ![28672, 300]⟩
abbrev S300x300 : Shape := ⟨2, ![300, 300]⟩
abbrev S1x300 : Shape := ⟨2, ![1, 300]⟩
abbrev S300x1x1 : Shape := ⟨3, ![300, 1, 1]⟩

abbrev nBuf : Space → Nat
  | .hbm => 143
  | .vmem => 0
  | .smem => 0
  | _ => 0

abbrev hbmTy0_0 (i : Nat) : BufTy := match i % 128 with
  | 0 => ⟨S300x41, .f32⟩
  | 1 => ⟨S300x128x224, .f32⟩
  | 2 => ⟨S_, .f32⟩
  | 3 => ⟨S300, .f32⟩
  | 4 => ⟨S_, .f32⟩
  | 5 => ⟨S300, .f32⟩
  | 6 => ⟨S300, .f32⟩
  | 7 => ⟨S300x1, .f32⟩
  | 8 => ⟨S300x41, .f32⟩
  | 9 => ⟨S300x41, .f32⟩
  | 10 => ⟨S300x41, .f32⟩
  | 11 => ⟨S_, .f32⟩
  | 12 => ⟨S300, .f32⟩
  | 13 => ⟨S300x1, .f32⟩
  | 14 => ⟨S300x41, .f32⟩
  | 15 => ⟨S300x41, .f32⟩
  | 16 => ⟨S300x40, .f32⟩
  | 17 => ⟨S_, .f32⟩
  | 18 => ⟨S300, .f32⟩
  | 19 => ⟨S300, .f32⟩
  | 20 => ⟨S300, .i32⟩
  | 21 => ⟨S300, .f32⟩
  | 22 => ⟨S300, .i32⟩
  | 23 => ⟨S_, .i32⟩
  | 24 => ⟨S300, .i32⟩
  | 25 => ⟨S300, .i1⟩
  | 26 => ⟨S_, .i32⟩
  | 27 => ⟨S300, .i32⟩
  | 28 => ⟨S300, .i32⟩
  | 29 => ⟨S300, .i32⟩
  | 30 => ⟨S300x1, .i32⟩
  | 31 => ⟨S300, .f32⟩
  | 32 => ⟨S_, .i32⟩
  | 33 => ⟨S300, .i32⟩
  | 34 => ⟨S300, .i1⟩
  | 35 => ⟨S_, .i32⟩
  | 36 => ⟨S300, .i32⟩
  | 37 => ⟨S300, .i32⟩
  | 38 => ⟨S300, .i32⟩
  | 39 => ⟨S300x1, .i32⟩
  | 40 => ⟨S300x128x224, .f32⟩
  | 41 => ⟨S_, .f32⟩
  | 42 => ⟨S300, .f32⟩
  | 43 => ⟨S300, .i1⟩
  | 44 => ⟨S300, .i32⟩
  | 45 => ⟨S_, .i32⟩
  | 46 => ⟨S_, .i32⟩
  | 47 => ⟨S_, .i32⟩
  | 48 => ⟨S_, .i1⟩
  | 49 => ⟨S_, .i32⟩
  | 50 => ⟨S1, .i32⟩
  | 51 => ⟨S_, .i1⟩
  | 52 => ⟨S300, .i1⟩
  | 53 => ⟨S300, .i1⟩
  | 54 => ⟨S300x128x224, .f32⟩
  | 55 => ⟨S300x128x224, .f32⟩
  | 56 => ⟨S_, .f32⟩
  | 57 => ⟨S300x128x224, .f32⟩
  | 58 => ⟨S300x128x224, .f32⟩
  | 59 => ⟨S_, .f32⟩
  | 60 => ⟨S300x128x224, .f32⟩
  | 61 => ⟨S300x128x224, .f32⟩
  | 62 => ⟨S_, .f32⟩
  | 63 => ⟨S300x128x224, .f32⟩
  | 64 => ⟨S300x128x224, .i1⟩
  | 65 => ⟨S300x128x224, .f32⟩
  | 66 => ⟨S300x28672, .f32⟩
  | 67 => ⟨S28672x300, .f32⟩
  | 68 => ⟨S300x300, .f32⟩
  | 69 => ⟨S_, .f32⟩
  | 70 => ⟨S300, .f32⟩
  | 71 => ⟨S300x1, .f32⟩
  | 72 => ⟨S1x300, .f32⟩
  | 73 => ⟨S300x300, .f32⟩
  | 74 => ⟨S300x300, .f32⟩
  | 75 => ⟨S300x300, .f32⟩
  | 76 => ⟨S300x300, .f32⟩
  | 77 => ⟨S_, .f32⟩
  | 78 => ⟨S_, .f32⟩
  | 79 => ⟨S300x300, .f32⟩
  | 80 => ⟨S300x300, .f32⟩
  | 81 => ⟨S300x300, .f32⟩
  | 82 => ⟨S_, .f32⟩
  | 83 => ⟨S300, .f32⟩
  | 84 => ⟨S_, .i32⟩
  | 85 => ⟨S_, .i32⟩
  | 86 => ⟨S300x300, .f32⟩
  | 87 => ⟨S_, .i32⟩
  | 88 => ⟨S_, .i32⟩
  | 89 => ⟨S300, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x300, .f32⟩
  | 109 => ⟨S300, .f32⟩
  | 110 => ⟨S_, .f32⟩
  | 111 => ⟨S300, .f32⟩
  | 112 => ⟨S300, .i1⟩
  | 113 => ⟨S300, .i32⟩
  | 114 => ⟨S_, .i32⟩
  | 115 => ⟨S300, .i32⟩
  | 116 => ⟨S300, .i1⟩
  | 117 => ⟨S300, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1, .f32⟩
  | 125 => ⟨S_, .f32⟩
  | 126 => ⟨S_, .f32⟩
  | 127 => ⟨S_, .i1⟩
  | _ => ⟨S300x41, .f32⟩

abbrev hbmTy0_1 (i : Nat) : BufTy := match i % 128 with
  | 0 => ⟨S300, .i1⟩
  | 1 => ⟨S300, .i1⟩
  | 2 => ⟨S300, .f32⟩
  | 3 => ⟨S_, .f32⟩
  | 4 => ⟨S300, .f32⟩
  | 5 => ⟨S300, .f32⟩
  | 6 => ⟨S300, .f32⟩
  | 7 => ⟨S_, .i32⟩
  | 8 => ⟨S_, .i32⟩
  | 9 => ⟨S300, .f32⟩
  | 10 => ⟨S300, .f32⟩
  | 11 => ⟨S300, .f32⟩
  | 12 => ⟨S300x1x1, .f32⟩
  | 13 => ⟨S300x128x224, .f32⟩
  | 14 => ⟨S300x128x224, .f32⟩
  | _ => ⟨S300x41, .f32⟩

abbrev hbmTy (i : Nat) : BufTy := match i / 128 with
  | 0 => hbmTy0_0 i
  | 1 => hbmTy0_1 i
  | _ => ⟨S300x41, .f32⟩

abbrev bufTy : (tb : Table) → Fin (tcTables nBuf tb) → BufTy
  | .hbm, ⟨i, _⟩ => hbmTy i
  | _, _ => ⟨S300x41, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1_0 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_call2_v0 : Ref sig .tc := ⟨.hbm, 78, rfl⟩
abbrev main_call2_v1 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_c_17 : Ref sig .tc := ⟨.hbm, 84, rfl⟩
abbrev main_c_18 : Ref sig .tc := ⟨.hbm, 85, rfl⟩
abbrev main_v59_0 : Ref sig .tc := ⟨.hbm, 86, rfl⟩
abbrev main_v59_1 : Ref sig .tc := ⟨.hbm, 87, rfl⟩
abbrev main_v59_2 : Ref sig .tc := ⟨.hbm, 88, rfl⟩
abbrev main_v59_3 : Ref sig .tc := ⟨.hbm, 89, rfl⟩
abbrev main_while0c_c_22 : Ref sig .tc := ⟨.hbm, 90, rfl⟩
abbrev main_while0c_v66 : Ref sig .tc := ⟨.hbm, 91, rfl⟩
abbrev main_while0b_c_22 : Ref sig .tc := ⟨.hbm, 92, rfl⟩
abbrev main_while0b_v66 : Ref sig .tc := ⟨.hbm, 93, rfl⟩
abbrev main_while0b_v67 : Ref sig .tc := ⟨.hbm, 94, rfl⟩
abbrev main_while0b_c_23 : Ref sig .tc := ⟨.hbm, 95, rfl⟩
abbrev main_while0b_v68 : Ref sig .tc := ⟨.hbm, 96, rfl⟩
abbrev main_while0b_c_24 : Ref sig .tc := ⟨.hbm, 97, rfl⟩
abbrev main_while0b_v69 : Ref sig .tc := ⟨.hbm, 98, rfl⟩
abbrev main_while0b_v70 : Ref sig .tc := ⟨.hbm, 99, rfl⟩
abbrev main_while0b_c_25 : Ref sig .tc := ⟨.hbm, 100, rfl⟩
abbrev main_while0b_c_26 : Ref sig .tc := ⟨.hbm, 101, rfl⟩
abbrev main_while0b_v71 : Ref sig .tc := ⟨.hbm, 102, rfl⟩
abbrev main_while0b_c_27 : Ref sig .tc := ⟨.hbm, 103, rfl⟩
abbrev main_while0b_c_28 : Ref sig .tc := ⟨.hbm, 104, rfl⟩
abbrev main_while0b_v72 : Ref sig .tc := ⟨.hbm, 105, rfl⟩
abbrev main_while0b_c_29 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_cst_30 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_c_31 : Ref sig .tc := ⟨.hbm, 118, rfl⟩
abbrev main_while0b_v83 : Ref sig .tc := ⟨.hbm, 119, rfl⟩
abbrev main_while0b_v84 : Ref sig .tc := ⟨.hbm, 120, rfl⟩
abbrev main_while0b_c_32 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_cst_33 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_cst_34 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_c_35 : Ref sig .tc := ⟨.hbm, 135, rfl⟩
abbrev main_while0b_v96 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩

abbrev nD : Nat := 1
abbrev τ : Topo := Topo.v7x

variable {F : FTy → Type} [FloatOps F]

abbrev main_while0_count : Scf.Loop 32 := ⟨0#32, 300#32, 1#32⟩
-- ==== Proof.Names.lean ====
/-
  Names for the pieces the kernel copies: the blocks of the result, the tiles of the output buffer, the cells of the
  semaphore array; and the closed forms of the offsets the kernel computes for them at a grid point.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Tactic

@[expose] public section

set_option maxRecDepth 16384

noncomputable section

namespace Cert.Proof

open Cert.KernelIdeal Cert.KernelIdeal.Gen
open Idealize.ShloMosaic
open Idealize.ShloMosaic.TcCoe Idealize.ShloMosaic.Tactic

/-- The result array, and the kernel's own buffers. -/
abbrev outM : Memref sig .tc .hbm S300x128x224 .f32 := Memref.whole main_v14
abbrev sigM : Memref sig .tc .vmem S16x300x8x224 .bf16 := Memref.whole cc0_scratch0
abbrev interM : Memref sig .tc .vmem S300x300 .f32 := Memref.whole cc0_scratch1
abbrev permM : Memref sig .tc .vmem S300x300 .f32 := Memref.whole cc0_scratch2
abbrev wM : Memref sig .tc .vmem S300x1 .f32 := Memref.whole cc0_scratch3
abbrev iouM : Memref sig .tc .vmem S300x300 .f32 := Memref.whole cc0_scratch4
abbrev bufM : Memref sig .tc .vmem S2x2x300x8x224 .f32 := Memref.whole cc0_scratch5

abbrev outOff (s : Fin 2) (u : Fin 8) : Fin 3 → Nat := ![0, 8 * u.val + 64 * s.val, 0]
theorem outOff_inb (s : Fin 2) (u : Fin 8) : ∀ a, outOff s u a + S300x8x224.size a ≤ S300x128x224.size a := by
  have := u.isLt; have := s.isLt; intro a; fin_cases a
  · show 0 + 300 ≤ 300; omega
  · show 8 * u.val + 64 * s.val + 8 ≤ 128; omega
  · show 0 + 224 ≤ 224; omega
abbrev tileOff (s a : Fin 2) : Fin 5 → Nat := ![s.val, a.val, 0, 0, 0]
theorem tileOff_inb (s a : Fin 2) : ∀ x, tileOff s a x + S1x1x300x8x224.size x ≤ S2x2x300x8x224.size x := by
  have := a.isLt; have := s.isLt; intro x; fin_cases x
  · show s.val + 1 ≤ 2; omega
  · show a.val + 1 ≤ 2; omega
  · show 0 + 300 ≤ 300; omega
  · show 0 + 8 ≤ 8; omega
  · show 0 + 224 ≤ 224; omega
abbrev cellOff (s a : Fin 2) : Fin 2 → Nat := ![s.val, a.val]
theorem cellOff_inb (s a : Fin 2) : ∀ x, cellOff s a x + S1x1.size x ≤ S2x2.size x := by
  have := a.isLt; have := s.isLt; intro x; fin_cases x
  · show s.val + 1 ≤ 2; omega
  · show a.val + 1 ≤ 2; omega

/-- Rows `8 (u + 8 s)` to `8 (u + 8 s) + 7` of the result, of every mask: what stream `s` writes at its step `u`. -/
def outB (s : Fin 2) (u : Fin 8) : Memref sig .tc .hbm S300x8x224 .f32 :=
  outM.slice (Rect.unit (s := S300x128x224) (outOff s u) S300x8x224.size (outOff_inb s u)) (fun _ => rfl)
/-- Tile `(s, a)` of the output buffer: stream `s`, slot `a`. -/
def tile (s a : Fin 2) : Memref sig .tc .vmem S300x8x224 .f32 :=
  (bufM.slice (Rect.unit (s := S2x2x300x8x224) (tileOff s a) S1x1x300x8x224.size (tileOff_inb s a)) (fun _ => rfl)).squeeze S300x8x224 squeezes_S1x1x300x8x224_S300x8x224
/-- The semaphore of tile `(s, a)`'s copies. -/
def csm (s a : Fin 2) : DmaSems sig S_ :=
  (cc0_scratch6.slice (Rect.unit (s := S2x2) (cellOff s a) S1x1.size (cellOff_inb s a))).squeeze S_ squeezes_S1x1_S_

instance (s a : Fin 2) : ClosedOff (tileOff s a) := ⟨tileOff s a, rfl⟩
instance (s : Fin 2) (u : Fin 8) : ClosedOff (outOff s u) := ⟨outOff s u, rfl⟩

section Offsets
variable (i : grid0.Coords)

theorem coord_lt : (i 0).val < 17 := (i 0).isLt

/-- A fact about the grid coordinate, checked at each of its seventeen values. -/
theorem coord_cases {P : ℕ → Prop} (h : ∀ n : Fin 17, P n.val) : P (i 0).val := h ⟨(i 0).val, coord_lt i⟩

theorem off3_eq (h : 9 ≤ (i 0).val) : k0_off3 i = cellOff 0 (Ring.sl 2 ((i 0).val - 9)) :=
  coord_cases i (P := fun n => 9 ≤ n → (![0, (Scalar.remsi (Scalar.subi (BitVec.ofNat 32 n) 9#32) 2#32).toNat] : Fin 2 → Nat) = cellOff 0 (Ring.sl 2 (n - 9))) (by decide +kernel) h
theorem off10_eq (h : 9 ≤ (i 0).val) : k0_off10 i = cellOff 0 (Ring.sl 2 ((i 0).val - 9)) := off3_eq i h
theorem off6_eq (h : 9 ≤ (i 0).val) : k0_off6 i = cellOff 1 (Ring.sl 2 ((i 0).val - 9)) :=
  coord_cases i (P := fun n => 9 ≤ n → (![1, (Scalar.remsi (Scalar.subi (BitVec.ofNat 32 n) 9#32) 2#32).toNat] : Fin 2 → Nat) = cellOff 1 (Ring.sl 2 (n - 9))) (by decide +kernel) h
theorem off14_eq (h : 9 ≤ (i 0).val) : k0_off14 i = cellOff 1 (Ring.sl 2 ((i 0).val - 9)) := off6_eq i h
theorem off5_eq (h : 9 ≤ (i 0).val) : k0_off5 i = tileOff 0 (Ring.sl 2 ((i 0).val - 9)) :=
  coord_cases i (P := fun n => 9 ≤ n → (![0, (Scalar.remsi (Scalar.subi (BitVec.ofNat 32 n) 9#32) 2#32).toNat, 0, 0, 0] : Fin 5 → Nat) = tileOff 0 (Ring.sl 2 (n - 9))) (by decide +kernel) h
theorem off9_eq (h : 9 ≤ (i 0).val) : k0_off9 i = tileOff 0 (Ring.sl 2 ((i 0).val - 9)) := off5_eq i h
theorem off12_eq (h : 9 ≤ (i 0).val) : k0_off12 i = tileOff 0 (Ring.sl 2 ((i 0).val - 9)) := off5_eq i h
theorem off7_eq (h : 9 ≤ (i 0).val) : k0_off7 i = tileOff 1 (Ring.sl 2 ((i 0).val - 9)) :=
  coord_cases i (P := fun n => 9 ≤ n → (![1, (Scalar.remsi (Scalar.subi (BitVec.ofNat 32 n) 9#32) 2#32).toNat, 0, 0, 0] : Fin 5 → Nat) = tileOff 1 (Ring.sl 2 (n - 9))) (by decide +kernel) h
theorem off13_eq (h : 9 ≤ (i 0).val) : k0_off13 i = tileOff 1 (Ring.sl 2 ((i 0).val - 9)) := off7_eq i h
theorem off15_eq (h : 9 ≤ (i 0).val) : k0_off15 i = tileOff 1 (Ring.sl 2 ((i 0).val - 9)) := off7_eq i h
theorem off4_eq (s : Fin 2) (h : 11 ≤ (i 0).val) : k0_off4 i (BitVec.ofNat 32 (8 * s.val)) = outOff s (Ring.bk 8 ((i 0).val - 9 - 2)) :=
  coord_cases i (P := fun n => ∀ s : Fin 2, 11 ≤ n → (![0, (Scalar.muli 8#32 (Scalar.addi (Scalar.subi (Scalar.subi (BitVec.ofNat 32 n) 9#32) 2#32) (BitVec.ofNat 32 (8 * s.val)))).toNat, 0] : Fin 3 → Nat) = outOff s (Ring.bk 8 (n - 9 - 2))) (by decide +kernel) s h
theorem off11_eq (s : Fin 2) (h : 9 ≤ (i 0).val) : k0_off11 i (BitVec.ofNat 32 (8 * s.val)) = outOff s (Ring.bk 8 ((i 0).val - 9)) :=
  coord_cases i (P := fun n => ∀ s : Fin 2, 9 ≤ n → (![0, (Scalar.muli 8#32 (Scalar.addi (Scalar.subi (BitVec.ofNat 32 n) 9#32) (BitVec.ofNat 32 (8 * s.val)))).toNat, 0] : Fin 3 → Nat) = outOff s (Ring.bk 8 (n - 9))) (by decide +kernel) s h
/-- Where phase A stores a block of stream `s`. -/
theorem off1_eq (s : Fin 2) : k0_off1 i (BitVec.ofNat 32 (8 * s.val)) = ![(i 0).val + 8 * s.val, 0, 0, 0] :=
  coord_cases i (P := fun n => ∀ s : Fin 2, (![(Scalar.indexCast (Scalar.addi (BitVec.ofNat 32 (8 * s.val)) (BitVec.ofNat 32 n))).toNat, 0, 0, 0] : Fin 4 → Nat) = ![n + 8 * s.val, 0, 0, 0]) (by decide +kernel) s
/-- Where phase C reads a block of stream `s`. -/
theorem off8_eq (s : Fin 2) (h : 9 ≤ (i 0).val) : k0_off8 i (BitVec.ofNat 32 (8 * s.val)) = ![(i 0).val - 9 + 8 * s.val, 0, 0, 0] :=
  coord_cases i (P := fun n => ∀ s : Fin 2, 9 ≤ n → (![(Scalar.indexCast (Scalar.addi (Scalar.subi (BitVec.ofNat 32 n) 9#32) (BitVec.ofNat 32 (8 * s.val)))).toNat, 0, 0, 0] : Fin 4 → Nat) = ![n - 9 + 8 * s.val, 0, 0, 0]) (by decide +kernel) s h

/-- The closed forms at the last point. -/
theorem off16_eq (h : (i 0).val = 16) (s a : Fin 2) : k0_off16 i (BitVec.ofNat 32 a.val) (BitVec.ofNat 32 (8 * s.val)) = outOff s (Ring.bk 8 (6 + a.val)) :=
  coord_cases i (P := fun n => n = 16 → ∀ s a : Fin 2, (![0, (Scalar.muli 8#32 (Scalar.addi (Scalar.addi (Scalar.subi (Scalar.subi (BitVec.ofNat 32 n) 9#32) 1#32) (BitVec.ofNat 32 a.val)) (BitVec.ofNat 32 (8 * s.val)))).toNat, 0] : Fin 3 → Nat) = outOff s (Ring.bk 8 (6 + a.val))) (by decide +kernel) h s a

theorem cond1_iff : k0_cond1 i = 1#1 ↔ (i 0).val < 8 :=
  coord_cases i (P := fun n => Scalar.cmpi .ne (Scalar.extui (Scalar.cmpi .slt (BitVec.ofNat 32 n) 8#32) : BitVec 32) 0#32 = 1#1 ↔ n < 8) (by decide +kernel)
theorem cond4_iff : k0_cond4 i = 1#1 ↔ (i 0).val = 8 :=
  coord_cases i (P := fun n => Scalar.cmpi .ne (Scalar.extui (Scalar.cmpi .eq (BitVec.ofNat 32 n) 8#32) : BitVec 32) 0#32 = 1#1 ↔ n = 8) (by decide +kernel)
theorem cond6_iff : k0_cond6 i = 1#1 ↔ 8 < (i 0).val :=
  coord_cases i (P := fun n => Scalar.cmpi .ne (Scalar.extui (Scalar.cmpi .sgt (BitVec.ofNat 32 n) 8#32) : BitVec 32) 0#32 = 1#1 ↔ 8 < n) (by decide +kernel)
theorem cond7_iff (h : 9 ≤ (i 0).val) : k0_cond7 i = 1#1 ↔ 11 ≤ (i 0).val :=
  coord_cases i (P := fun n => 9 ≤ n → (Scalar.cmpi .ne (Scalar.extui (Scalar.cmpi .sge (Scalar.subi (BitVec.ofNat 32 n) 9#32) 2#32) : BitVec 32) 0#32 = 1#1 ↔ 11 ≤ n)) (by decide +kernel) h
theorem cond8_iff : k0_cond8 i = 1#1 ↔ (i 0).val = 16 :=
  coord_cases i (P := fun n => Scalar.cmpi .ne (Scalar.extui (Scalar.cmpi .eq (Scalar.subi (BitVec.ofNat 32 n) 9#32) 7#32) : BitVec 32) 0#32 = 1#1 ↔ n = 16) (by decide +kernel)
theorem first_iff : Scalar.cmpi .ne (Scalar.extui (Scalar.cmpi .eq (BitVec.ofNat 32 (i 0).val) 0#32) : BitVec 32) 0#32 = 1#1 ↔ (i 0).val = 0 :=
  coord_cases i (P := fun n => Scalar.cmpi .ne (Scalar.extui (Scalar.cmpi .eq (BitVec.ofNat 32 n) 0#32) : BitVec 32) 0#32 = 1#1 ↔ n = 0) (by decide +kernel)
theorem later_iff : Scalar.cmpi .ne (Scalar.extui (Scalar.cmpi .sgt (BitVec.ofNat 32 (i 0).val) 0#32) : BitVec 32) 0#32 = 1#1 ↔ 0 < (i 0).val :=
  coord_cases i (P := fun n => Scalar.cmpi .ne (Scalar.extui (Scalar.cmpi .sgt (BitVec.ofNat 32 n) 0#32) : BitVec 32) 0#32 = 1#1 ↔ 0 < n) (by decide +kernel)

end Offsets

/-! ## The kernel's slices are these names -/

section Canon
variable (i : grid0.Coords)

theorem csm_congr {off : Fin 2 → Nat} {s a : Fin 2} (e : off = cellOff s a) (hh) :
    (cc0_scratch6.slice (Rect.unit (s := S2x2) off S1x1.size hh)).squeeze S_ squeezes_S1x1_S_ = csm s a :=
  congrArg (fun A : DmaSems sig S1x1 => A.squeeze S_ squeezes_S1x1_S_) (SemArray.slice_unit_congr _ e _ _)
theorem tile_congr {off : Fin 5 → Nat} {s a : Fin 2} (e : off = tileOff s a) (hh hs) :
    (bufM.slice (Rect.unit (s := S2x2x300x8x224) off S1x1x300x8x224.size hh) hs).squeeze S300x8x224 squeezes_S1x1x300x8x224_S300x8x224 = tile s a :=
  congrArg (fun M : Memref sig .tc .vmem S1x1x300x8x224 .f32 => M.squeeze S300x8x224 squeezes_S1x1x300x8x224_S300x8x224) (Memref.slice_unit_congr _ e _ _ _ _)
theorem outB_congr {off : Fin 3 → Nat} {s : Fin 2} {u : Fin 8} (e : off = outOff s u) (hh hs) :
    outM.slice (Rect.unit (s := S300x128x224) off S300x8x224.size hh) hs = outB s u := Memref.slice_unit_congr _ e _ _ _ (fun _ => rfl)

variable (h9 : 9 ≤ (i 0).val) (h16 : (i 0).val < 16)
include h9 h16
@[sl_canon] theorem sem3 (hh) : (cc0_scratch6.slice (Rect.unit (s := S2x2) (k0_off3 i) S1x1.size hh)).squeeze S_ squeezes_S1x1_S_ = csm 0 (Ring.sl 2 ((i 0).val - 9)) := csm_congr (off3_eq i h9) _
@[sl_canon] theorem sem6 (hh) : (cc0_scratch6.slice (Rect.unit (s := S2x2) (k0_off6 i) S1x1.size hh)).squeeze S_ squeezes_S1x1_S_ = csm 1 (Ring.sl 2 ((i 0).val - 9)) := csm_congr (off6_eq i h9) _
@[sl_canon] theorem sem10 (hh) : (cc0_scratch6.slice (Rect.unit (s := S2x2) (k0_off10 i) S1x1.size hh)).squeeze S_ squeezes_S1x1_S_ = csm 0 (Ring.sl 2 ((i 0).val - 9)) := csm_congr (off10_eq i h9) _
@[sl_canon] theorem sem14 (hh) : (cc0_scratch6.slice (Rect.unit (s := S2x2) (k0_off14 i) S1x1.size hh)).squeeze S_ squeezes_S1x1_S_ = csm 1 (Ring.sl 2 ((i 0).val - 9)) := csm_congr (off14_eq i h9) _
@[sl_canon] theorem tile5 (hh hs) : (bufM.slice (Rect.unit (s := S2x2x300x8x224) (k0_off5 i) S1x1x300x8x224.size hh) hs).squeeze S300x8x224 squeezes_S1x1x300x8x224_S300x8x224 = tile 0 (Ring.sl 2 ((i 0).val - 9)) := tile_congr (off5_eq i h9) _ _
@[sl_canon] theorem tile7 (hh hs) : (bufM.slice (Rect.unit (s := S2x2x300x8x224) (k0_off7 i) S1x1x300x8x224.size hh) hs).squeeze S300x8x224 squeezes_S1x1x300x8x224_S300x8x224 = tile 1 (Ring.sl 2 ((i 0).val - 9)) := tile_congr (off7_eq i h9) _ _
@[sl_canon] theorem tile12 (hh hs) : (bufM.slice (Rect.unit (s := S2x2x300x8x224) (k0_off12 i) S1x1x300x8x224.size hh) hs).squeeze S300x8x224 squeezes_S1x1x300x8x224_S300x8x224 = tile 0 (Ring.sl 2 ((i 0).val - 9)) := tile_congr (off12_eq i h9) _ _
@[sl_canon] theorem tile15 (hh hs) : (bufM.slice (Rect.unit (s := S2x2x300x8x224) (k0_off15 i) S1x1x300x8x224.size hh) hs).squeeze S300x8x224 squeezes_S1x1x300x8x224_S300x8x224 = tile 1 (Ring.sl 2 ((i 0).val - 9)) := tile_congr (off15_eq i h9) _ _
@[sl_canon] theorem out11_0 (hh hs) : outM.slice (Rect.unit (s := S300x128x224) (k0_off11 i 0#32) S300x8x224.size hh) hs = outB 0 (Ring.bk 8 ((i 0).val - 9)) := outB_congr (off11_eq i 0 h9) _ _
@[sl_canon] theorem out11_1 (hh hs) : outM.slice (Rect.unit (s := S300x128x224) (k0_off11 i 8#32) S300x8x224.size hh) hs = outB 1 (Ring.bk 8 ((i 0).val - 9)) := outB_congr (off11_eq i 1 h9) _ _
omit h9
@[sl_canon] theorem out4_0 (h11 : 11 ≤ (i 0).val) (hh hs) : outM.slice (Rect.unit (s := S300x128x224) (k0_off4 i 0#32) S300x8x224.size hh) hs = outB 0 (Ring.bk 8 ((i 0).val - 9 - 2)) := outB_congr (off4_eq i 0 h11) _ _
@[sl_canon] theorem out4_1 (h11 : 11 ≤ (i 0).val) (hh hs) : outM.slice (Rect.unit (s := S300x128x224) (k0_off4 i 8#32) S300x8x224.size hh) hs = outB 1 (Ring.bk 8 ((i 0).val - 9 - 2)) := outB_congr (off4_eq i 1 h11) _ _
end Canon

/-! ### At the last point: slot 1 is refilled, and both slots are drained. -/

section Last
variable (i : grid0.Coords) (h : (i 0).val = 16)

theorem sl_last (h : (i 0).val = 16) : Ring.sl 2 ((i 0).val - 9) = 1 := by rw [h]; decide
theorem bk_last (h : (i 0).val = 16) : Ring.bk 8 ((i 0).val - 9) = 7 := by rw [h]; decide
theorem bk_last2 (h : (i 0).val = 16) : Ring.bk 8 ((i 0).val - 9 - 2) = 5 := by rw [h]; decide

include h
@[sl_canon] theorem sem3L (hh) : (cc0_scratch6.slice (Rect.unit (s := S2x2) (k0_off3 i) S1x1.size hh)).squeeze S_ squeezes_S1x1_S_ = csm 0 1 := csm_congr ((off3_eq i (by omega)).trans (by rw [sl_last i h])) _
@[sl_canon] theorem sem6L (hh) : (cc0_scratch6.slice (Rect.unit (s := S2x2) (k0_off6 i) S1x1.size hh)).squeeze S_ squeezes_S1x1_S_ = csm 1 1 := csm_congr ((off6_eq i (by omega)).trans (by rw [sl_last i h])) _
@[sl_canon] theorem sem10L (hh) : (cc0_scratch6.slice (Rect.unit (s := S2x2) (k0_off10 i) S1x1.size hh)).squeeze S_ squeezes_S1x1_S_ = csm 0 1 := csm_congr ((off10_eq i (by omega)).trans (by rw [sl_last i h])) _
@[sl_canon] theorem sem14L (hh) : (cc0_scratch6.slice (Rect.unit (s := S2x2) (k0_off14 i) S1x1.size hh)).squeeze S_ squeezes_S1x1_S_ = csm 1 1 := csm_congr ((off14_eq i (by omega)).trans (by rw [sl_last i h])) _
@[sl_canon] theorem tile5L (hh hs) : (bufM.slice (Rect.unit (s := S2x2x300x8x224) (k0_off5 i) S1x1x300x8x224.size hh) hs).squeeze S300x8x224 squeezes_S1x1x300x8x224_S300x8x224 = tile 0 1 := tile_congr ((off5_eq i (by omega)).trans (by rw [sl_last i h])) _ _
@[sl_canon] theorem tile7L (hh hs) : (bufM.slice (Rect.unit (s := S2x2x300x8x224) (k0_off7 i) S1x1x300x8x224.size hh) hs).squeeze S300x8x224 squeezes_S1x1x300x8x224_S300x8x224 = tile 1 1 := tile_congr ((off7_eq i (by omega)).trans (by rw [sl_last i h])) _ _
@[sl_canon] theorem tile12L (hh hs) : (bufM.slice (Rect.unit (s := S2x2x300x8x224) (k0_off12 i) S1x1x300x8x224.size hh) hs).squeeze S300x8x224 squeezes_S1x1x300x8x224_S300x8x224 = tile 0 1 := tile_congr ((off12_eq i (by omega)).trans (by rw [sl_last i h])) _ _
@[sl_canon] theorem tile15L (hh hs) : (bufM.slice (Rect.unit (s := S2x2x300x8x224) (k0_off15 i) S1x1x300x8x224.size hh) hs).squeeze S300x8x224 squeezes_S1x1x300x8x224_S300x8x224 = tile 1 1 := tile_congr ((off15_eq i (by omega)).trans (by rw [sl_last i h])) _ _
@[sl_canon] theorem out11_0L (hh hs) : outM.slice (Rect.unit (s := S300x128x224) (k0_off11 i 0#32) S300x8x224.size hh) hs = outB 0 7 := outB_congr ((off11_eq i 0 (by omega)).trans (by rw [bk_last i h])) _ _
@[sl_canon] theorem out11_1L (hh hs) : outM.slice (Rect.unit (s := S300x128x224) (k0_off11 i 8#32) S300x8x224.size hh) hs = outB 1 7 := outB_congr ((off11_eq i 1 (by omega)).trans (by rw [bk_last i h])) _ _
@[sl_canon] theorem out4_0L (hh hs) : outM.slice (Rect.unit (s := S300x128x224) (k0_off4 i 0#32) S300x8x224.size hh) hs = outB 0 5 := outB_congr ((off4_eq i 0 (by omega)).trans (by rw [bk_last2 i h])) _ _
@[sl_canon] theorem out4_1L (hh hs) : outM.slice (Rect.unit (s := S300x128x224) (k0_off4 i 8#32) S300x8x224.size hh) hs = outB 1 5 := outB_congr ((off4_eq i 1 (by omega)).trans (by rw [bk_last2 i h])) _ _
@[sl_canon] theorem out16_00 (hh hs) : outM.slice (Rect.unit (s := S300x128x224) (k0_off16 i 0#32 0#32) S300x8x224.size hh) hs = outB 0 6 := outB_congr (off16_eq i h 0 0) _ _
@[sl_canon] theorem out16_01 (hh hs) : outM.slice (Rect.unit (s := S300x128x224) (k0_off16 i 1#32 0#32) S300x8x224.size hh) hs = outB 0 7 := outB_congr (off16_eq i h 0 1) _ _
@[sl_canon] theorem out16_10 (hh hs) : outM.slice (Rect.unit (s := S300x128x224) (k0_off16 i 0#32 8#32) S300x8x224.size hh) hs = outB 1 6 := outB_congr (off16_eq i h 1 0) _ _
@[sl_canon] theorem out16_11 (hh hs) : outM.slice (Rect.unit (s := S300x128x224) (k0_off16 i 1#32 8#32) S300x8x224.size hh) hs = outB 1 7 := outB_congr (off16_eq i h 1 1) _ _
end Last

@[sl_canon] theorem sem00 (hh) : (cc0_scratch6.slice (Rect.unit (s := S2x2) ![0, 0] S1x1.size hh)).squeeze S_ squeezes_S1x1_S_ = csm 0 0 := csm_congr (by decide) _
@[sl_canon] theorem sem01 (hh) : (cc0_scratch6.slice (Rect.unit (s := S2x2) ![0, 1] S1x1.size hh)).squeeze S_ squeezes_S1x1_S_ = csm 0 1 := csm_congr (by decide) _
@[sl_canon] theorem sem10' (hh) : (cc0_scratch6.slice (Rect.unit (s := S2x2) ![1, 0] S1x1.size hh)).squeeze S_ squeezes_S1x1_S_ = csm 1 0 := csm_congr (by decide) _
@[sl_canon] theorem sem11 (hh) : (cc0_scratch6.slice (Rect.unit (s := S2x2) ![1, 1] S1x1.size hh)).squeeze S_ squeezes_S1x1_S_ = csm 1 1 := csm_congr (by decide) _
@[sl_canon] theorem tile00 (hh hs) : (bufM.slice (Rect.unit (s := S2x2x300x8x224) ![0, 0, 0, 0, 0] S1x1x300x8x224.size hh) hs).squeeze S300x8x224 squeezes_S1x1x300x8x224_S300x8x224 = tile 0 0 := tile_congr (by decide) _ _
@[sl_canon] theorem tile01 (hh hs) : (bufM.slice (Rect.unit (s := S2x2x300x8x224) ![0, 1, 0, 0, 0] S1x1x300x8x224.size hh) hs).squeeze S300x8x224 squeezes_S1x1x300x8x224_S300x8x224 = tile 0 1 := tile_congr (by decide) _ _
@[sl_canon] theorem tile10 (hh hs) : (bufM.slice (Rect.unit (s := S2x2x300x8x224) ![1, 0, 0, 0, 0] S1x1x300x8x224.size hh) hs).squeeze S300x8x224 squeezes_S1x1x300x8x224_S300x8x224 = tile 1 0 := tile_congr (by decide) _ _
@[sl_canon] theorem tile11 (hh hs) : (bufM.slice (Rect.unit (s := S2x2x300x8x224) ![1, 1, 0, 0, 0] S1x1x300x8x224.size hh) hs).squeeze S300x8x224 squeezes_S1x1x300x8x224_S300x8x224 = tile 1 1 := tile_congr (by decide) _ _

end Cert.Proof

end
-- ==== Proof.PhaseA.lean ====
/-
  Phase A of the kernel: at each of the first eight points it stores two blocks of sigmoids and adds the blocks' share of
  the pairwise intersections to the running total.
-/
module

public import proofs.«01_k».proof.Proof.Names
public import Idealize.ShloMosaic.Lib.VecWindow
public import Idealize.ShloMosaic.Lib.WritesUnit

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section
variable (c : Dev nD) (i : grid0.Coords)
  (arg1 : Memref sig .tc .vmem S1x300 .f32) (harg1 : arg1.IsWhole)
  (arg2 : Memref sig .tc .vmem S300x8x224 .f32) (harg2 : arg2.IsWhole)
  (arg3 : Memref sig .tc .vmem S300x8x224 .f32) (harg3 : arg3.IsWhole)

/-- The body at grid coordinate `i`, on the given staging buffers. -/
abbrev bodyG : Prog (TpuEff nD τ sig (Elt F) Λ₀ .tc) PUnit :=
  cc0__tracker_kernel i arg1 harg1 arg2 harg2 arg3 harg3 outM (Memref.isWhole_whole _) sigM (Memref.isWhole_whole _)
    interM (Memref.isWhole_whole _) permM (Memref.isWhole_whole _) wM (Memref.isWhole_whole _) iouM (Memref.isWhole_whole _)
    bufM (Memref.isWhole_whole _) cc0_scratch6

/-- A staging buffer held whole. -/
abbrev heldP {σ} {s : Shape} {e : EltTy} (M : Memref sig .tc σ s e) (f : Buf (Elt F) (M.view.loc (c : Thread nD τ))) : sProp 𝕄 :=
  M.view.loc (c : Thread nD τ) ↦[M.view.set]{fullShare} f

end

/-! ## The sigmoid blocks stored so far -/

/-- The stored sigmoid blocks: block `r` of stream `s` is the rounded sigmoid of `B s r`, for every `r` below `n`. -/
def SigOK (B : Fin 2 → ℕ → Vec F S300x8x224 .f32) (n : ℕ) (f : sigM.view.ty.Contents (Elt F)) : Prop :=
  ∀ (s : Fin 2) (r : ℕ), r < n → ∀ (off : Fin 4 → ℕ) (inb : ∀ a, off a + S1x300x8x224.size a ≤ S16x300x8x224.size a),
    off = ![r + 8 * s.val, 0, 0, 0] →
    sigM.view.readAt (Elt F) (Rect.unit (s := S16x300x8x224) off S1x300x8x224.size inb).toLoadRect f = k0_pay3 (B s r)

/-- Before the first point nothing is asked of the store. -/
theorem sigOK_zero (B : Fin 2 → ℕ → Vec F S300x8x224 .f32) (f) : SigOK B 0 f := fun s r h => absurd h (by omega)

/-- Storing the two blocks of point `n` extends the stored blocks by one. -/
theorem sigOK_store {B : Fin 2 → ℕ → Vec F S300x8x224 .f32} {n : ℕ} {f : sigM.view.ty.Contents (Elt F)} (H : SigOK B n f) (hn : n < 8)
    {o0 o1 : Fin 4 → ℕ} (e0 : o0 = ![n + 8 * 0, 0, 0, 0]) (e1 : o1 = ![n + 8 * 1, 0, 0, 0])
    (i0 : ∀ a, o0 a + S1x300x8x224.size a ≤ S16x300x8x224.size a) (i1 : ∀ a, o1 a + S1x300x8x224.size a ≤ S16x300x8x224.size a) :
    SigOK B (n + 1) (sigM.view.writes (Elt F) f [⟨Rect.unit (s := S16x300x8x224) o1 S1x300x8x224.size i1, k0_pay4 (B 1 n)⟩,
      ⟨Rect.unit (s := S16x300x8x224) o0 S1x300x8x224.size i0, k0_pay3 (B 0 n)⟩]) := by
  intro s r hr off inb eo
  funext y
  have hy0 : (y 0).val < 1 := (y 0).isLt
  have hs := s.isLt
  have idxS : ∀ a : Fin 4, ((Rect.unit (s := S16x300x8x224) off S1x300x8x224.size inb).toLoadRect.idx y a).val
      = (![r + 8 * s.val, 0, 0, 0] : Fin 4 → ℕ) a + (y a).val := by
    intro a; subst eo; exact congrArg _ (Nat.one_mul _)
  have idx0 := idxS 0
  change _ = r + 8 * s.val + (y 0).val at idx0
  rw [View.readAt_apply]
  by_cases h : r = n
  · subst h
    by_cases h1 : s = 1
    · subst h1
      exact View.read_writes_cons_unit_of_mem sigM.view f i1 _ _ _ y e1 idxS
    · have h0 : s = 0 := Fin.ext (by have : s.val ≠ 1 := fun h => h1 (Fin.ext h); show s.val = 0; omega)
      subst h0
      rw [View.read_writes_cons_unit_of_not_mem sigM.view f i1 _ _ _ e1 0 (Or.inl (by rw [idx0]; show r + 8 * 0 + (y 0).val < r + 8 * 1; omega))]
      exact View.read_writes_cons_unit_of_mem sigM.view f i0 _ _ _ y e0 idxS
  · rw [View.read_writes_cons_unit_of_not_mem sigM.view f i1 _ _ _ e1 0 (by
        rw [idx0]; show r + 8 * s.val + (y 0).val < n + 8 * 1 ∨ n + 8 * 1 + 1 ≤ r + 8 * s.val + (y 0).val; omega),
      View.read_writes_cons_unit_of_not_mem sigM.view f i0 _ _ _ e0 0 (by
        rw [idx0]; show r + 8 * s.val + (y 0).val < n + 8 * 0 ∨ n + 8 * 0 + 1 ≤ r + 8 * s.val + (y 0).val; omega), View.writes_nil]
    exact (View.readAt_apply _ _ _).symm.trans (congrFun (H s r (by omega) off inb eo) y)

section
variable (c : Dev nD) (i : grid0.Coords)
  (arg1 : Memref sig .tc .vmem S1x300 .f32) (harg1 : arg1.IsWhole)
  (arg2 : Memref sig .tc .vmem S300x8x224 .f32) (harg2 : arg2.IsWhole)
  (arg3 : Memref sig .tc .vmem S300x8x224 .f32) (harg3 : arg3.IsWhole)

/-- The first point: two blocks stored, the intersections begun. -/
theorem phaseA0 (hi : (i 0).val = 0) (g2 : Buf (Elt F) (arg2.view.loc (c : Thread nD τ))) (g3 : Buf (Elt F) (arg3.view.loc (c : Thread nD τ)))
    (fS : Buf (Elt F) (sigM.view.loc (c : Thread nD τ))) (fI : Buf (Elt F) (interM.view.loc (c : Thread nD τ))) (Q : PUnit → sProp 𝕄) :
    iprop((heldP c arg2 g2 ∗ heldP c arg3 g3 ∗ heldP c sigM fS ∗ heldP c interM fI)
      ∗ ((heldP c arg2 g2 ∗ heldP c arg3 g3 ∗ (∃ fS' : Buf (Elt F) (sigM.view.loc (c : Thread nD τ)), heldP c sigM fS'
            ∗ ⌜∀ B : Fin 2 → ℕ → Vec F S300x8x224 .f32, SigOK B (i 0).val fS → B 0 (i 0).val = arg2.view.read (Elt F) g2 →
                B 1 (i 0).val = arg3.view.read (Elt F) g3 → SigOK B ((i 0).val + 1) fS'⌝)
          ∗ (∃ fI' : Buf (Elt F) (interM.view.loc (c : Thread nD τ)), heldP c interM fI'
            ∗ ⌜interM.view.read (Elt F) fI' = k0_pay6 (arg2.view.read (Elt F) g2) (arg3.view.read (Elt F) g3)⌝)) -∗ Q ⟨⟩))
      ⊢ wp frame (wpE (defs₀ (F := F)) 𝒱₀ (c : Thread nD τ) none) Set.univ (bodyG i arg1 harg1 arg2 harg2 arg3 harg3) Q := by
  have c1 : k0_cond1 i = 1#1 := (cond1_iff i).2 (by omega)
  have c4 : ¬ k0_cond4 i = 1#1 := fun h => by have := (cond4_iff i).1 h; omega
  have c6 : ¬ k0_cond6 i = 1#1 := fun h => by have := (cond6_iff i).1 h; omega
  have cf := (first_iff i).2 hi
  have cl := (later_iff i).not.2 (by omega : ¬ 0 < (i 0).val)
  iintro ⟨⟨H2, H3, HS, HI⟩, Hk⟩
  sl_exec (disch := first | sl_exact c1 | sl_exact c4 | sl_exact c6 | sl_exact cf | sl_exact cl)
  sl_step
  iapply Hk
  isplitl [H2]; · iexact H2
  isplitl [H3]; · iexact H3
  isplitl [HS]
  · iexists _
    isplitl [HS]; · iexact HS
    ipureintro
    intro B H hB0 hB1
    rw [View.readAt_full arg2.view g2, View.readAt_full arg3.view g3, ← hB0, ← hB1]
    exact sigOK_store H (by omega) (off1_eq i 0) (off1_eq i 1) _ _
  · iexists _
    isplitl [HI]; · iexact HI
    ipureintro
    rw [View.readAt_full arg2.view g2, View.readAt_full arg3.view g3]
    exact View.read_writes_full _ _ _ _ _

/-- A later point of phase A: two blocks stored, the blocks' intersections added. -/
theorem phaseA (hi : 0 < (i 0).val) (hi' : (i 0).val < 8) (g2 : Buf (Elt F) (arg2.view.loc (c : Thread nD τ))) (g3 : Buf (Elt F) (arg3.view.loc (c : Thread nD τ)))
    (fS : Buf (Elt F) (sigM.view.loc (c : Thread nD τ))) (fI : Buf (Elt F) (interM.view.loc (c : Thread nD τ))) (Q : PUnit → sProp 𝕄) :
    iprop((heldP c arg2 g2 ∗ heldP c arg3 g3 ∗ heldP c sigM fS ∗ heldP c interM fI)
      ∗ ((heldP c arg2 g2 ∗ heldP c arg3 g3 ∗ (∃ fS' : Buf (Elt F) (sigM.view.loc (c : Thread nD τ)), heldP c sigM fS'
            ∗ ⌜∀ B : Fin 2 → ℕ → Vec F S300x8x224 .f32, SigOK B (i 0).val fS → B 0 (i 0).val = arg2.view.read (Elt F) g2 →
                B 1 (i 0).val = arg3.view.read (Elt F) g3 → SigOK B ((i 0).val + 1) fS'⌝)
          ∗ (∃ fI' : Buf (Elt F) (interM.view.loc (c : Thread nD τ)), heldP c interM fI'
            ∗ ⌜interM.view.read (Elt F) fI' = k0_pay1 (k0_pay5 (arg2.view.read (Elt F) g2) (arg3.view.read (Elt F) g3)) (interM.view.read (Elt F) fI)⌝)) -∗ Q ⟨⟩))
      ⊢ wp frame (wpE (defs₀ (F := F)) 𝒱₀ (c : Thread nD τ) none) Set.univ (bodyG i arg1 harg1 arg2 harg2 arg3 harg3) Q := by
  have c1 : k0_cond1 i = 1#1 := (cond1_iff i).2 (by omega)
  have c4 : ¬ k0_cond4 i = 1#1 := fun h => by have := (cond4_iff i).1 h; omega
  have c6 : ¬ k0_cond6 i = 1#1 := fun h => by have := (cond6_iff i).1 h; omega
  have cf := (first_iff i).not.2 (by omega : ¬ (i 0).val = 0)
  have cl := (later_iff i).2 hi
  iintro ⟨⟨H2, H3, HS, HI⟩, Hk⟩
  sl_exec (disch := first | sl_exact c1 | sl_exact c4 | sl_exact c6 | sl_exact cf | sl_exact cl)
  sl_step
  iapply Hk
  isplitl [H2]; · iexact H2
  isplitl [H3]; · iexact H3
  isplitl [HS]
  · iexists _
    isplitl [HS]; · iexact HS
    ipureintro
    intro B H hB0 hB1
    rw [View.readAt_full arg2.view g2, View.readAt_full arg3.view g3, ← hB0, ← hB1]
    exact sigOK_store H (by omega) (off1_eq i 0) (off1_eq i 1) _ _
  · iexists _
    isplitl [HI]; · iexact HI
    ipureintro
    unfold phaseA.sl.r
    rw [View.readAt_full arg2.view g2, View.readAt_full arg3.view g3, View.readAt_full interM.view fI]
    exact View.read_writes_full _ _ _ _ _

end
end Cert.Proof

end
-- ==== Proof.PhaseB.lean ====
/-
  Phase B of the kernel: at the ninth point it sorts the scores, permutes the IoU matrix, suppresses, and leaves the
  permutation matrix and the scores kept.
-/
module

public import proofs.«01_k».proof.Proof.PhaseA

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The keep mask before trip `k` of the suppression loop, from the mask `init`, over the matrix's rows `row`. -/
def keepAt (row : Fin k0_t1_loop.trips → Vec F S1x300 .f32) (init : FVec F S1x300 .f32) : ℕ → FVec F S1x300 .f32
  | 0 => init
  | k + 1 => if h : k < k0_t1_loop.trips then k0_pay14 ⟨k, h⟩ (keepAt row init k) (row ⟨k, h⟩) else keepAt row init k

theorem keepAt_succ (row : Fin k0_t1_loop.trips → Vec F S1x300 .f32) (init : FVec F S1x300 .f32) (k : Fin k0_t1_loop.trips) :
    keepAt row init (k.val + 1) = k0_pay14 k (keepAt row init k.val) (row k) := by
  rw [keepAt, dif_pos k.isLt]

/-- The row read at a trip is the trip's. -/
theorem off2_eq : ∀ k : Fin k0_t1_loop.trips, k0_off2 k = ![k.val, 0] := by decide +kernel
theorem off2_inb (k : Fin k0_t1_loop.trips) : ∀ a, k0_off2 k a + S1x300.size a ≤ S300x300.size a := by
  have hk : k.val < 300 := k.isLt
  rw [off2_eq k]; intro a; fin_cases a
  · show k.val + 1 ≤ 300; omega
  · show 0 + 300 ≤ 300; omega

/-- Row `k` of a matrix. -/
abbrev rowOf (M : Vec F S300x300 .f32) (k : Fin k0_t1_loop.trips) : Vec F S1x300 .f32 :=
  VecWindow.window (s := S300x300) M (k0_off2 k) S1x300.size (off2_inb k)

/-- Whether any entry above the diagonal of the sorted IoU matrix exceeds the threshold. -/
abbrev anySup (M : FVec F S300x300 .f32) : Prop :=
  Scalar.cmpi .ne (Scalar.extui (Scalar.cmpf .ogt (k0_pay13 (iota .tc S300x300 32 [0] iota_S300x300_d0_w32) (iota .tc S300x300 32 [1] iota_S300x300_d1_w32) M)
    (Scalar.ofBits .f32 0x3F19999A#32 : F .f32)) : BitVec 32) 0#32 = 1#1

/-- The permutation matrix of the scores `ms`. -/
abbrev permOf (ms : Vec F S1x300 .f32) : FVec F S300x300 .f32 := k0_pay15 (k0_pay9 ms)
/-- The keep mask: the suppression's fold where any pair is to be suppressed, else the ones. -/
def keepOf (ms : Vec F S1x300 .f32) (inter : Vec F S300x300 .f32) : FVec F S1x300 .f32 :=
  if anySup (k0_pay10 ms inter) then keepAt (rowOf (k0_pay11 ms inter)) k0_pay12 k0_t1_loop.trips else k0_pay12
/-- The kept scores, in descending order, as a column. -/
abbrev wOf (ms : Vec F S1x300 .f32) (inter : Vec F S300x300 .f32) : FVec F S300x1 .f32 :=
  k0_pay16 (k0_pay7 ms) k0_pay8 (k0_pay9 ms) (keepOf ms inter)

section
variable (c : Dev nD) (i : grid0.Coords)
  (arg1 : Memref sig .tc .vmem S1x300 .f32) (harg1 : arg1.IsWhole)
  (arg2 : Memref sig .tc .vmem S300x8x224 .f32) (harg2 : arg2.IsWhole)
  (arg3 : Memref sig .tc .vmem S300x8x224 .f32) (harg3 : arg3.IsWhole)

instance (k : Fin k0_t1_loop.trips) : ClosedOff (k0_off2 k) := ⟨k0_off2 k, rfl⟩

set_option warn.classDefReducibility false in
/-- The suppression loop's invariant: the matrix unchanged, the carried mask the trips' fold. -/
@[sl_loop] def keepInv (k0_h4 : k0_cond4 i = 1#1) (v10 : FVec F S1x300 .f32) (v12 v13 : IVec S300x300 32) (v16 v50 v52 v55 : FVec F S300x300 .f32)
    (f9 : Buf (Elt F) (iouM.view.loc (c : Thread nD τ))) (init : FVec F S1x300 .f32) :
    LoopInvTy_k0_t1 (F := F) Unit ℕ (UU nD τ) ℕ 𝒱₀ c none Set.univ i arg1 harg1 arg2 harg2 arg3 harg3 outM (Memref.isWhole_whole _) sigM (Memref.isWhole_whole _)
    interM (Memref.isWhole_whole _) permM (Memref.isWhole_whole _) wM (Memref.isWhole_whole _) iouM (Memref.isWhole_whole _)
    bufM (Memref.isWhole_whole _) cc0_scratch6 k0_h4 v10 v12 v13 v16 v50 v52 v55 init where
  inv k acc := iprop(heldP c iouM f9 ∗ ⌜acc = keepAt (rowOf (iouM.view.read (Elt F) f9)) init k⌝)
  step k acc := by
    iintro ⟨H9, %e⟩
    subst e
    sl_unfold [k0_t1_body]
    sl_exec
    sl_step
    isplitl [H9]; · iexact H9
    ipureintro; exact (keepAt_succ _ _ k).symm

/-- The ninth point: from the scores and the intersections, the permutation matrix and the kept scores. -/
theorem phaseB (hi : (i 0).val = 8) (g1 : Buf (Elt F) (arg1.view.loc (c : Thread nD τ))) (fI : Buf (Elt F) (interM.view.loc (c : Thread nD τ)))
    (fP : Buf (Elt F) (permM.view.loc (c : Thread nD τ))) (fW : Buf (Elt F) (wM.view.loc (c : Thread nD τ))) (fU : Buf (Elt F) (iouM.view.loc (c : Thread nD τ)))
    (Q : PUnit → sProp 𝕄) :
    iprop((heldP c arg1 g1 ∗ heldP c interM fI ∗ heldP c permM fP ∗ heldP c wM fW ∗ heldP c iouM fU)
      ∗ ((heldP c arg1 g1 ∗ heldP c interM fI
          ∗ (∃ fP' : Buf (Elt F) (permM.view.loc (c : Thread nD τ)), heldP c permM fP' ∗ ⌜permM.view.read (Elt F) fP' = permOf (arg1.view.read (Elt F) g1)⌝)
          ∗ (∃ fW' : Buf (Elt F) (wM.view.loc (c : Thread nD τ)), heldP c wM fW'
              ∗ ⌜wM.view.read (Elt F) fW' = wOf (arg1.view.read (Elt F) g1) (interM.view.read (Elt F) fI)⌝)
          ∗ (∃ fU' : Buf (Elt F) (iouM.view.loc (c : Thread nD τ)), heldP c iouM fU')) -∗ Q ⟨⟩))
      ⊢ wp frame (wpE (defs₀ (F := F)) 𝒱₀ (c : Thread nD τ) none) Set.univ (bodyG i arg1 harg1 arg2 harg2 arg3 harg3) Q := by
  have c1 : ¬ k0_cond1 i = 1#1 := fun h => by have := (cond1_iff i).1 h; omega
  have c4 : k0_cond4 i = 1#1 := (cond4_iff i).2 hi
  have c6 : ¬ k0_cond6 i = 1#1 := fun h => by have := (cond6_iff i).1 h; omega
  have e1 := View.readAt_full arg1.view g1 inb_S1x300_S1x300_0_0
  have eI := View.readAt_full interM.view fI inb_S300x300_S300x300_0_0
  iintro ⟨⟨H1, HI, HP, HW, HU⟩, Hk⟩
  sl_exec (disch := first | sl_exact c1 | sl_exact c4 | sl_exact c6)
  by_cases hc : anySup (k0_pay10 (arg1.view.read (Elt F) g1) (interM.view.read (Elt F) fI))
  · have hc' := hc
    rw [← e1, ← eI] at hc'
    sl_exec (disch := first | sl_exact c1 | sl_exact c4 | sl_exact c6 | sl_exact hc')
    sl_step
    iapply Hk
    isplitl [H1]; · iexact H1
    isplitl [HI]; · iexact HI
    isplitl [HP]
    · iexists _
      isplitl [HP]; · iexact HP
      ipureintro
      refine (View.read_writes_full permM.view _ _ _ _).trans ?_
      unfold phaseB.sl.r_1
      rfl
    isplitl [HW]
    · iexists _
      isplitl [HW]; · iexact HW
      ipureintro
      refine (View.read_writes_full wM.view _ _ _ _).trans ?_
      unfold wOf keepOf
      rw [if_pos hc]
      unfold phaseB.sl.r_4 phaseB.sl.r_1 phaseB.sl.r
      rw [View.read_writes_full iouM.view]
      rfl
    iexists _; iexact HU
  · have hc' := hc
    rw [← e1, ← eI] at hc'
    sl_exec (disch := first | sl_exact c1 | sl_exact c4 | sl_exact c6 | sl_exact hc')
    sl_step
    iapply Hk
    isplitl [H1]; · iexact H1
    isplitl [HI]; · iexact HI
    isplitl [HP]
    · iexists _
      isplitl [HP]; · iexact HP
      ipureintro
      refine (View.read_writes_full permM.view _ _ _ _).trans ?_
      unfold phaseB.sl.r_1
      rfl
    isplitl [HW]
    · iexists _
      isplitl [HW]; · iexact HW
      ipureintro
      refine (View.read_writes_full wM.view _ _ _ _).trans ?_
      unfold wOf keepOf
      rw [if_neg hc]
      unfold phaseB.sl.r_5 phaseB.sl.r_1 phaseB.sl.r
      rfl
    iexists _; iexact HU

end
end Cert.Proof

end
-- ==== Proof.PhaseC.lean ====
/-
  Phase C of the kernel: at each of the last eight points it waits for the copies out of the slot it is about to refill,
  fills the slot's two tiles with the permuted, scaled sigmoids, and starts their copies; the last point waits for all.
-/
module

public import proofs.«01_k».proof.Proof.PhaseA

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- What the kernel computes for a block of stream `s`, in the order of the result's block: the permuted sigmoids `b`,
    each mask's scaled by its kept score. -/
def blkVal (s : Fin 2) (p : Vec F S300x300 .f32) (w : Vec F S300x1 .f32) (b : Vec F S1x300x8x224 .bf16) : Vec F S300x8x224 .f32 :=
  shapeCast S300x8x224 (if s = 0 then k0_pay19 p w b else k0_pay2 (k0_pay17 p) (k0_pay18 w) b) squeezes_S1x1x300x8x224_S300x8x224.numel_eq

/-- A tile just written reads what was written. -/
theorem read_tile_write {s a : Fin 2} {off : Fin 5 → ℕ} (e : off = tileOff s a) (hh : ∀ x, off x + S1x1x300x8x224.size x ≤ S2x2x300x8x224.size x)
    (f : bufM.view.ty.Contents (Elt F)) (w : Vec F S1x1x300x8x224 .f32) :
    (tile s a).view.read (Elt F) ((bufM.access (Rect.unit (s := S2x2x300x8x224) off S1x1x300x8x224.size hh)).write (Elt F) f w Finset.univ)
      = shapeCast S300x8x224 w squeezes_S1x1x300x8x224_S300x8x224.numel_eq := by
  subst e
  funext y
  exact congrFun (View.read_write_univ (v := bufM.access (Rect.unit (s := S2x2x300x8x224) (tileOff s a) S1x1x300x8x224.size hh)) f w) (Shape.reshapeEquiv squeezes_S1x1x300x8x224_S300x8x224.numel_eq y)

section
variable (c : Dev nD) (i : grid0.Coords)
  (arg1 : Memref sig .tc .vmem S1x300 .f32) (harg1 : arg1.IsWhole)
  (arg2 : Memref sig .tc .vmem S300x8x224 .f32) (harg2 : arg2.IsWhole)
  (arg3 : Memref sig .tc .vmem S300x8x224 .f32) (harg3 : arg3.IsWhole)

/-- The semaphore cell of tile `(s, a)`, at zero. -/
abbrev cellP (s a : Fin 2) : sProp 𝕄 := semVal ((c : Thread nD τ), SemLoc.dma (csm s a).sem) 0

/-- Block `u` of stream `s` of the result, holding the value `v`. -/
abbrev doneP (v : Vec F S300x8x224 .f32) (s : Fin 2) (u : Fin 8) : sProp 𝕄 :=
  iprop(∃ fd : Buf (Elt F) ((outB s u).view.loc (c : Thread nD τ)), heldP c (outB s u) fd ∗ ⌜(outB s u).view.read (Elt F) fd = v⌝)

/-- The copy of tile `(s, a)` into block `u` of stream `s`, in flight; it will leave the value `v` there. -/
abbrev flyP (v : Vec F S300x8x224 .f32) (s a : Fin 2) (u : Fin 8) : sProp 𝕄 :=
  iprop(∃ (fd : Buf (Elt F) ((outB s u).view.loc (c : Thread nD τ))) (ft : Buf (Elt F) ((tile s a).view.loc (c : Thread nD τ))),
    Transfers.Flight countersEmb (c : Thread nD τ) (SemLoc.dma (csm s a).sem) default 76800
      iprop(heldP c (outB s u) fd ∗ heldP c (tile s a) ft) ∗ ⌜(outB s u).view.read (Elt F) fd = v⌝)

/-- Tile `(s, a)`, at any contents. -/
abbrev tileP (s a : Fin 2) : sProp 𝕄 := iprop(∃ ft : Buf (Elt F) ((tile s a).view.loc (c : Thread nD τ)), heldP c (tile s a) ft)

/-- The first two points of phase C: nothing to wait for; both tiles of the slot are filled and their copies started. -/
theorem phaseC0 (hi : 9 ≤ (i 0).val) (hi' : (i 0).val < 11) (fS : Buf (Elt F) (sigM.view.loc (c : Thread nD τ)))
   (fP : Buf (Elt F) (permM.view.loc (c : Thread nD τ))) (fW : Buf (Elt F) (wM.view.loc (c : Thread nD τ)))
   (ft0 : Buf (Elt F) ((tile 0 (Ring.sl 2 ((i 0).val - 9))).view.loc (c : Thread nD τ)))
   (ft1 : Buf (Elt F) ((tile 1 (Ring.sl 2 ((i 0).val - 9))).view.loc (c : Thread nD τ)))
   (fo0 : Buf (Elt F) ((outB 0 (Ring.bk 8 ((i 0).val - 9))).view.loc (c : Thread nD τ)))
   (fo1 : Buf (Elt F) ((outB 1 (Ring.bk 8 ((i 0).val - 9))).view.loc (c : Thread nD τ)))
   (B : Fin 2 → ℕ → Vec F S300x8x224 .f32) (HB : SigOK B 8 fS) (Q : PUnit → sProp 𝕄) :
    iprop((heldP c sigM fS ∗ heldP c permM fP ∗ heldP c wM fW ∗ heldP c (tile 0 (Ring.sl 2 ((i 0).val - 9))) ft0 ∗ heldP c (tile 1 (Ring.sl 2 ((i 0).val - 9))) ft1
       ∗ heldP c (outB 0 (Ring.bk 8 ((i 0).val - 9))) fo0 ∗ heldP c (outB 1 (Ring.bk 8 ((i 0).val - 9))) fo1 ∗ cellP c 0 (Ring.sl 2 ((i 0).val - 9)) ∗ cellP c 1 (Ring.sl 2 ((i 0).val - 9)))
      ∗ ((heldP c sigM fS ∗ heldP c permM fP ∗ heldP c wM fW ∗ flyP c (blkVal 0 (permM.view.read (Elt F) fP) (wM.view.read (Elt F) fW) (k0_pay3 (B 0 ((i 0).val - 9)))) 0 (Ring.sl 2 ((i 0).val - 9)) (Ring.bk 8 ((i 0).val - 9))
          ∗ flyP c (blkVal 1 (permM.view.read (Elt F) fP) (wM.view.read (Elt F) fW) (k0_pay3 (B 1 ((i 0).val - 9)))) 1 (Ring.sl 2 ((i 0).val - 9)) (Ring.bk 8 ((i 0).val - 9))) -∗ Q ⟨⟩))
      ⊢ wp frame (wpE (defs₀ (F := F)) 𝒱₀ (c : Thread nD τ) none) Set.univ (bodyG i arg1 harg1 arg2 harg2 arg3 harg3) Q := by
  have c1 : ¬ k0_cond1 i = 1#1 := fun h => by have := (cond1_iff i).1 h; omega
  have c4 : ¬ k0_cond4 i = 1#1 := fun h => by have := (cond4_iff i).1 h; omega
  have c6 : k0_cond6 i = 1#1 := (cond6_iff i).2 (by omega)
  have c7 : ¬ k0_cond7 i = 1#1 := fun h => by have := (cond7_iff i hi).1 h; omega
  have c8 : ¬ k0_cond8 i = 1#1 := fun h => by have := (cond8_iff i).1 h; omega
  have h16 : (i 0).val < 16 := by omega
  letI : ClosedOff (k0_off9 i) := ⟨tileOff 0 (Ring.sl 2 ((i 0).val - 9)), off9_eq i hi⟩
  letI : ClosedOff (k0_off13 i) := ⟨tileOff 1 (Ring.sl 2 ((i 0).val - 9)), off13_eq i hi⟩
  letI : ClosedOff (k0_off8 i 0#32) := ⟨_, off8_eq i 0 hi⟩
  letI : ClosedOff (k0_off8 i 8#32) := ⟨_, off8_eq i 1 hi⟩
  iintro ⟨⟨HS, HP, HW, Ht0, Ht1, Ho0, Ho1, Hc0, Hc1⟩, Hk⟩
  sl_exec (disch := first | sl_exact c1 | sl_exact c4 | sl_exact c6 | sl_exact c7 | sl_exact c8)
  sl_step
  iapply Hk
  isplitl [HS]; · iexact HS
  isplitl [HP]; · iexact HP
  isplitl [HW]; · iexact HW
  isplitl [Hc0]
  · iexists _; iexists _
    isplitl [Hc0]; · iexact Hc0
    ipureintro
    refine (View.read_writes_whole _ _ _).trans ?_
    unfold phaseC0.sl.dma5 phaseC0.sl.Ht0_w1
    refine (read_tile_write (off9_eq i hi) _ _ _).trans ?_
    unfold blkVal
    rw [if_pos rfl, View.readAt_full permM.view fP, View.readAt_full wM.view fW, HB 0 ((i 0).val - 9) (by omega) (k0_off8 i 0#32) _ (off8_eq i 0 hi)]
  · iexists _; iexists _
    isplitl [Hc1]; · iexact Hc1
    ipureintro
    refine (View.read_writes_whole _ _ _).trans ?_
    unfold phaseC0.sl.dma8 phaseC0.sl.Ht1_w2 phaseC0.sl.r phaseC0.sl.r_1
    refine (read_tile_write (off13_eq i hi) _ _ _).trans ?_
    unfold blkVal
    rw [if_neg (by decide), View.readAt_full permM.view fP, View.readAt_full wM.view fW, HB 1 ((i 0).val - 9) (by omega) (k0_off8 i 8#32) _ (off8_eq i 1 hi)]

/-- A later point of phase C, not the last: it waits for the copies of two points before, then refills the slot and starts its copies. -/
theorem phaseC (hi : 11 ≤ (i 0).val) (hi' : (i 0).val < 16) (fS : Buf (Elt F) (sigM.view.loc (c : Thread nD τ)))
   (fP : Buf (Elt F) (permM.view.loc (c : Thread nD τ))) (fW : Buf (Elt F) (wM.view.loc (c : Thread nD τ)))
   (ft0 : Buf (Elt F) ((tile 0 (Ring.sl 2 ((i 0).val - 9))).view.loc (c : Thread nD τ)))
   (ft1 : Buf (Elt F) ((tile 1 (Ring.sl 2 ((i 0).val - 9))).view.loc (c : Thread nD τ)))
   (fp0 : Buf (Elt F) ((outB 0 (Ring.bk 8 ((i 0).val - 9 - 2))).view.loc (c : Thread nD τ)))
   (fp1 : Buf (Elt F) ((outB 1 (Ring.bk 8 ((i 0).val - 9 - 2))).view.loc (c : Thread nD τ)))
   (fo0 : Buf (Elt F) ((outB 0 (Ring.bk 8 ((i 0).val - 9))).view.loc (c : Thread nD τ)))
   (fo1 : Buf (Elt F) ((outB 1 (Ring.bk 8 ((i 0).val - 9))).view.loc (c : Thread nD τ)))
   (B : Fin 2 → ℕ → Vec F S300x8x224 .f32) (HB : SigOK B 8 fS) (W : Waits sig Unit) (Q : PUnit → sProp 𝕄) :
    iprop((owes (c : Thread nD τ) 0 W ∗ heldP c sigM fS ∗ heldP c permM fP ∗ heldP c wM fW ∗
       heldP c (outB 0 (Ring.bk 8 ((i 0).val - 9))) fo0 ∗ heldP c (outB 1 (Ring.bk 8 ((i 0).val - 9))) fo1 ∗ Transfers.Flight countersEmb (c : Thread nD τ) (SemLoc.dma (csm 0 (Ring.sl 2 ((i 0).val - 9))).sem) default 76800
         iprop(heldP c (outB 0 (Ring.bk 8 ((i 0).val - 9 - 2))) fp0 ∗ heldP c (tile 0 (Ring.sl 2 ((i 0).val - 9))) ft0)
       ∗ Transfers.Flight countersEmb (c : Thread nD τ) (SemLoc.dma (csm 1 (Ring.sl 2 ((i 0).val - 9))).sem) default 76800
         iprop(heldP c (outB 1 (Ring.bk 8 ((i 0).val - 9 - 2))) fp1 ∗ heldP c (tile 1 (Ring.sl 2 ((i 0).val - 9))) ft1))
      ∗ (((∃ W', owes (c : Thread nD τ) 0 W') ∗ heldP c sigM fS ∗ heldP c permM fP ∗ heldP c wM fW
          ∗ heldP c (outB 0 (Ring.bk 8 ((i 0).val - 9 - 2))) fp0 ∗ heldP c (outB 1 (Ring.bk 8 ((i 0).val - 9 - 2))) fp1 ∗ flyP c (blkVal 0 (permM.view.read (Elt F) fP) (wM.view.read (Elt F) fW) (k0_pay3 (B 0 ((i 0).val - 9)))) 0 (Ring.sl 2 ((i 0).val - 9)) (Ring.bk 8 ((i 0).val - 9))
          ∗ flyP c (blkVal 1 (permM.view.read (Elt F) fP) (wM.view.read (Elt F) fW) (k0_pay3 (B 1 ((i 0).val - 9)))) 1 (Ring.sl 2 ((i 0).val - 9)) (Ring.bk 8 ((i 0).val - 9))) -∗ Q ⟨⟩))
      ⊢ wp frame (wpE (defs₀ (F := F)) 𝒱₀ (c : Thread nD τ) none) Set.univ (bodyG i arg1 harg1 arg2 harg2 arg3 harg3) Q := by
  have c1 : ¬ k0_cond1 i = 1#1 := fun h => by have := (cond1_iff i).1 h; omega
  have c4 : ¬ k0_cond4 i = 1#1 := fun h => by have := (cond4_iff i).1 h; omega
  have c6 : k0_cond6 i = 1#1 := (cond6_iff i).2 (by omega)
  have h9 : 9 ≤ (i 0).val := by omega
  have c7 : k0_cond7 i = 1#1 := (cond7_iff i h9).2 hi
  have c8 : ¬ k0_cond8 i = 1#1 := fun h => by have := (cond8_iff i).1 h; omega
  have h16 : (i 0).val < 16 := by omega
  letI : ClosedOff (k0_off9 i) := ⟨tileOff 0 (Ring.sl 2 ((i 0).val - 9)), off9_eq i h9⟩
  letI : ClosedOff (k0_off13 i) := ⟨tileOff 1 (Ring.sl 2 ((i 0).val - 9)), off13_eq i h9⟩
  letI : ClosedOff (k0_off8 i 0#32) := ⟨_, off8_eq i 0 h9⟩
  letI : ClosedOff (k0_off8 i 8#32) := ⟨_, off8_eq i 1 h9⟩
  iintro ⟨⟨HO, HS, HP, HW, Ho0, Ho1, Hc0, Hc1⟩, Hk⟩
  sl_exec (disch := first | sl_exact c1 | sl_exact c4 | sl_exact c6 | sl_exact c7 | sl_exact c8)
  sl_step
  iapply Hk
  isplitl [HO]; · iexists _; iexact HO
  isplitl [HS]; · iexact HS
  isplitl [HP]; · iexact HP
  isplitl [HW]; · iexact HW
  isplitl [Hc0_dst]; · iexact Hc0_dst
  isplitl [Hc1_dst]; · iexact Hc1_dst
  isplitl [Hc0]
  · iexists _; iexists _
    isplitl [Hc0]; · iexact Hc0
    ipureintro
    refine (View.read_writes_whole _ _ _).trans ?_
    unfold phaseC.sl.dma5 phaseC.sl.Hc0_src_w1
    refine (read_tile_write (off9_eq i h9) _ _ _).trans ?_
    unfold blkVal
    rw [if_pos rfl, View.readAt_full permM.view fP, View.readAt_full wM.view fW, HB 0 ((i 0).val - 9) (by omega) (k0_off8 i 0#32) _ (off8_eq i 0 h9)]
  · iexists _; iexists _
    isplitl [Hc1]; · iexact Hc1
    ipureintro
    refine (View.read_writes_whole _ _ _).trans ?_
    unfold phaseC.sl.dma8 phaseC.sl.Hc1_src_w2 phaseC.sl.r phaseC.sl.r_1
    refine (read_tile_write (off13_eq i h9) _ _ _).trans ?_
    unfold blkVal
    rw [if_neg (by decide), View.readAt_full permM.view fP, View.readAt_full wM.view fW, HB 1 ((i 0).val - 9) (by omega) (k0_off8 i 8#32) _ (off8_eq i 1 h9)]

/-- The last point: it waits for the copies of two points before, refills the slot, starts its copies, and waits for
    all that is in flight. -/
theorem phaseC_last (hi : (i 0).val = 16) (fS : Buf (Elt F) (sigM.view.loc (c : Thread nD τ)))
   (fP : Buf (Elt F) (permM.view.loc (c : Thread nD τ))) (fW : Buf (Elt F) (wM.view.loc (c : Thread nD τ)))
   (ft00 : Buf (Elt F) ((tile 0 0).view.loc (c : Thread nD τ)))
   (ft01 : Buf (Elt F) ((tile 0 1).view.loc (c : Thread nD τ)))
   (fo05 : Buf (Elt F) ((outB 0 5).view.loc (c : Thread nD τ)))
   (fo06 : Buf (Elt F) ((outB 0 6).view.loc (c : Thread nD τ)))
   (fo07 : Buf (Elt F) ((outB 0 7).view.loc (c : Thread nD τ)))
   (ft10 : Buf (Elt F) ((tile 1 0).view.loc (c : Thread nD τ)))
   (ft11 : Buf (Elt F) ((tile 1 1).view.loc (c : Thread nD τ)))
   (fo15 : Buf (Elt F) ((outB 1 5).view.loc (c : Thread nD τ)))
   (fo16 : Buf (Elt F) ((outB 1 6).view.loc (c : Thread nD τ)))
   (fo17 : Buf (Elt F) ((outB 1 7).view.loc (c : Thread nD τ)))
   (B : Fin 2 → ℕ → Vec F S300x8x224 .f32) (HB : SigOK B 8 fS) (W : Waits sig Unit) (Q : PUnit → sProp 𝕄) :
    iprop((owes (c : Thread nD τ) 0 W ∗ heldP c sigM fS ∗ heldP c permM fP ∗ heldP c wM fW ∗ heldP c (outB 0 7) fo07 ∗ heldP c (outB 1 7) fo17
       ∗ Transfers.Flight countersEmb (c : Thread nD τ) (SemLoc.dma (csm 0 1).sem) default 76800
         iprop(heldP c (outB 0 5) fo05 ∗ heldP c (tile 0 1) ft01)
       ∗ Transfers.Flight countersEmb (c : Thread nD τ) (SemLoc.dma (csm 1 1).sem) default 76800
         iprop(heldP c (outB 1 5) fo15 ∗ heldP c (tile 1 1) ft11)
       ∗ Transfers.Flight countersEmb (c : Thread nD τ) (SemLoc.dma (csm 0 0).sem) default 76800
         iprop(heldP c (outB 0 6) fo06 ∗ heldP c (tile 0 0) ft00)
       ∗ Transfers.Flight countersEmb (c : Thread nD τ) (SemLoc.dma (csm 1 0).sem) default 76800
         iprop(heldP c (outB 1 6) fo16 ∗ heldP c (tile 1 0) ft10))
      ∗ (((∃ W', owes (c : Thread nD τ) 0 W') ∗ heldP c sigM fS ∗ heldP c permM fP ∗ heldP c wM fW
          ∗ doneP c (blkVal 0 (permM.view.read (Elt F) fP) (wM.view.read (Elt F) fW) (k0_pay3 (B 0 7))) 0 7 ∗ doneP c (blkVal 1 (permM.view.read (Elt F) fP) (wM.view.read (Elt F) fW) (k0_pay3 (B 1 7))) 1 7
          ∗ heldP c (outB 0 5) fo05 ∗ heldP c (outB 1 5) fo15 ∗ heldP c (outB 0 6) fo06 ∗ heldP c (outB 1 6) fo16
          ∗ tileP c 0 1 ∗ tileP c 1 1 ∗ tileP c 0 0 ∗ tileP c 1 0
          ∗ cellP c 0 1 ∗ cellP c 1 1 ∗ cellP c 0 0 ∗ cellP c 1 0) -∗ Q ⟨⟩))
      ⊢ wp frame (wpE (defs₀ (F := F)) 𝒱₀ (c : Thread nD τ) none) Set.univ (bodyG i arg1 harg1 arg2 harg2 arg3 harg3) Q := by
  have c1 : ¬ k0_cond1 i = 1#1 := fun h => by have := (cond1_iff i).1 h; omega
  have c4 : ¬ k0_cond4 i = 1#1 := fun h => by have := (cond4_iff i).1 h; omega
  have c6 : k0_cond6 i = 1#1 := (cond6_iff i).2 (by omega)
  have h9 : 9 ≤ (i 0).val := by omega
  have h11 : 11 ≤ (i 0).val := by omega
  have c7 : k0_cond7 i = 1#1 := (cond7_iff i h9).2 h11
  have c8 : k0_cond8 i = 1#1 := (cond8_iff i).2 hi
  have e9 : k0_off9 i = tileOff 0 1 := (off9_eq i h9).trans (by rw [sl_last i hi])
  have e13 : k0_off13 i = tileOff 1 1 := (off13_eq i h9).trans (by rw [sl_last i hi])
  have e80 : k0_off8 i 0#32 = ![7 + 8 * (0 : Fin 2).val, 0, 0, 0] := (off8_eq i 0 h9).trans (by rw [hi])
  have e81 : k0_off8 i 8#32 = ![7 + 8 * (1 : Fin 2).val, 0, 0, 0] := (off8_eq i 1 h9).trans (by rw [hi])
  letI : ClosedOff (k0_off9 i) := ⟨_, e9⟩
  letI : ClosedOff (k0_off13 i) := ⟨_, e13⟩
  letI : ClosedOff (k0_off8 i 0#32) := ⟨_, e80⟩
  letI : ClosedOff (k0_off8 i 8#32) := ⟨_, e81⟩
  iintro ⟨⟨HO, HS, HP, HW, Ho0, Ho1, Hc0, Hc1, Hd0, Hd1⟩, Hk⟩
  sl_exec (disch := first | sl_exact c1 | sl_exact c4 | sl_exact c6 | sl_exact c7 | sl_exact c8)
  sl_step
  iapply Hk
  isplitl [HO]; · iexists _; iexact HO
  isplitl [HS]; · iexact HS
  isplitl [HP]; · iexact HP
  isplitl [HW]; · iexact HW
  isplitl [Ho0]
  · iexists _
    isplitl [Ho0]; · iexact Ho0
    ipureintro
    refine (View.read_writes_whole _ _ _).trans ?_
    unfold phaseC_last.sl.dma5 phaseC_last.sl.Hc0_src_w1
    refine (read_tile_write e9 _ _ _).trans ?_
    unfold blkVal
    rw [if_pos rfl, View.readAt_full permM.view fP, View.readAt_full wM.view fW, HB 0 7 (by omega) (k0_off8 i 0#32) _ e80]
  isplitl [Ho1]
  · iexists _
    isplitl [Ho1]; · iexact Ho1
    ipureintro
    refine (View.read_writes_whole _ _ _).trans ?_
    unfold phaseC_last.sl.dma8 phaseC_last.sl.Hc1_src_w2 phaseC_last.sl.r phaseC_last.sl.r_1
    refine (read_tile_write e13 _ _ _).trans ?_
    unfold blkVal
    rw [if_neg (by decide), View.readAt_full permM.view fP, View.readAt_full wM.view fW, HB 1 7 (by omega) (k0_off8 i 8#32) _ e81]
  isplitl [Hc0_dst]; · iexact Hc0_dst
  isplitl [Hc1_dst]; · iexact Hc1_dst
  isplitl [Hd0_dst]; · iexact Hd0_dst
  isplitl [Hd1_dst]; · iexact Hd1_dst
  isplitl [Hc0_src]; · iexists _; iexact Hc0_src
  isplitl [Hc1_src]; · iexists _; iexact Hc1_src
  isplitl [Hd0_src]; · iexists _; iexact Hd0_src
  isplitl [Hd1_src]; · iexists _; iexact Hd1_src
  isplitl [Hc0]; · iexact Hc0
  isplitl [Hc1]; · iexact Hc1
  isplitl [Hd0]; · iexact Hd0
  iexact Hd1

end
end Cert.Proof

end
-- ==== Proof.Steps.lean ====
/-
  What holds between two points of the kernel's grid, and that the body carries it from each point to the next: the ring
  of output tiles and the copies in flight out of them, and what the kernel's own buffers hold.
-/
module

public import proofs.«01_k».proof.Proof.PhaseB
public import proofs.«01_k».proof.Proof.PhaseC

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The values -/

/-- The intersections after points `0` to `n` of phase A. -/
def interAcc (B : Fin 2 → ℕ → Vec F S300x8x224 .f32) : ℕ → FVec F S300x300 .f32
  | 0 => k0_pay6 (B 0 0) (B 1 0)
  | n + 1 => k0_pay1 (k0_pay5 (B 0 (n + 1)) (B 1 (n + 1))) (interAcc B n)

/-- What the kernel leaves in block `u` of stream `s` of the result, for the scores `ms` and the blocks `B`. -/
def outVal (ms : Vec F S1x300 .f32) (B : Fin 2 → ℕ → Vec F S300x8x224 .f32) (s : Fin 2) (u : ℕ) : Vec F S300x8x224 .f32 :=
  blkVal s (permOf ms) (wOf ms (interAcc B 7)) (k0_pay3 (B s u))

/-! ## The ring's roles -/

section
variable (c : Dev nD) (ms : Vec F S1x300 .f32) (B : Fin 2 → ℕ → Vec F S300x8x224 .f32)

/-- Slot `a` at rest: both streams' cells at zero and tiles at anything. -/
def freeR (a : Fin 2) : sProp 𝕄 := iprop(cellP c 0 a ∗ cellP c 1 a ∗ tileP c 0 a ∗ tileP c 1 a)
/-- Slot `a`'s copies into blocks `u` in flight. -/
def inflR (a : Fin 2) (u : Fin 8) : sProp 𝕄 := iprop(flyP c (outVal ms B 0 u.val) 0 a u ∗ flyP c (outVal ms B 1 u.val) 1 a u)
/-- Blocks `u` not yet written. -/
def aheadR (u : Fin 8) : sProp 𝕄 := iprop((∃ f : Buf (Elt F) ((outB 0 u).view.loc (c : Thread nD τ)), heldP c (outB 0 u) f)
  ∗ ∃ f : Buf (Elt F) ((outB 1 u).view.loc (c : Thread nD τ)), heldP c (outB 1 u) f)
/-- Blocks `u` written. -/
def behindR (u : Fin 8) : sProp 𝕄 := iprop(doneP c (outVal ms B 0 u.val) 0 u ∗ doneP c (outVal ms B 1 u.val) 1 u)

/-- The ring before step `t` of phase C. -/
def ringR (t : ℕ) : sProp 𝕄 := Ring.AtBΦ 2 (freeR c) (inflR c ms B) (aheadR c) (behindR c ms B) t

/-- Steps 0 and 1 take the step's blocks and a slot at rest, and put them in flight. -/
theorem ring_first (t : ℕ) (ht : t < 2) :
    ringR c ms B t ⊢ iprop((aheadR c (Ring.bk 8 t) ∗ freeR c (Ring.sl 2 t))
      ∗ (inflR c ms B (Ring.sl 2 t) (Ring.bk 8 t) -∗ ringR c ms B (t + 1))) := by
  unfold ringR
  rw [Ring.AtBΦ_lt _ _ _ _ _ t (by omega), Ring.AtBΦ_lt _ _ _ _ _ (t + 1) (by omega)]
  rcases (show t = 0 ∨ t = 1 by omega) with h | h
  · rw [Ring.AtB2_zero' 2 _ _ _ _ t h, Ring.AtB22_next_zero' _ _ _ _ t h]
    iintro ⟨⟨Ha, Hr⟩, Hf, Hf'⟩
    isplitl [Ha Hf]
    · isplitl [Ha]; · iexact Ha
      iexact Hf
    iintro Hi
    isplitl [Hr]; · iexact Hr
    isplitl [Hf']; · iexact Hf'
    iexact Hi
  · rw [Ring.AtB22_one' _ _ _ _ t h (by omega), Ring.AtB22_next_one' _ _ _ _ t h]
    iintro ⟨⟨Ha, Hr⟩, Hf, Hf'⟩
    isplitl [Ha Hf]
    · isplitl [Ha]; · iexact Ha
      iexact Hf
    iintro Hi
    isplitl [Hr]; · iexact Hr
    isplitl [Hf']; · iexact Hf'
    iexact Hi

/-- A later step lands the copies of two steps before. -/
theorem ring_mid (t : ℕ) (h2 : 2 ≤ t) (ht : t < 7) :
    ringR c ms B t ⊢ iprop((aheadR c (Ring.bk 8 t) ∗ inflR c ms B (Ring.sl 2 t) (Ring.bk 8 (t - 2)))
      ∗ (behindR c ms B (Ring.bk 8 (t - 2)) ∗ inflR c ms B (Ring.sl 2 t) (Ring.bk 8 t) -∗ ringR c ms B (t + 1))) := by
  unfold ringR
  rw [Ring.AtBΦ_lt _ _ _ _ _ t (by omega), Ring.AtBΦ_lt _ _ _ _ _ (t + 1) (by omega),
    Ring.AtB22_here _ _ _ _ t h2 (by omega), Ring.AtB22_next _ _ _ _ t h2 (by omega)]
  iintro ⟨⟨Ha, Hr⟩, Hb, Hi, Hi'⟩
  isplitl [Ha Hi]
  · isplitl [Ha]; · iexact Ha
    iexact Hi
  iintro ⟨Hd, Hn⟩
  isplitl [Hr]; · iexact Hr
  isplitl [Hd Hb]
  · isplitl [Hd]; · iexact Hd
    iexact Hb
  isplitl [Hi']; · iexact Hi'
  iexact Hn

/-- The last step lands everything. -/
theorem ring_last :
    ringR c ms B 7 ⊢ iprop((aheadR c 7 ∗ inflR c ms B 1 5 ∗ inflR c ms B 0 6)
      ∗ ((behindR c ms B 7 ∗ behindR c ms B 5 ∗ behindR c ms B 6) ∗ freeR c 1 ∗ freeR c 0 -∗ ringR c ms B 8)) := by
  unfold ringR
  rw [Ring.AtBΦ_lt _ _ _ _ _ 7 (by omega), Ring.AtBΦ_end _ _ _ _ _ 8 rfl,
    Ring.AtB22_here_last _ _ _ _ 7 (by omega) rfl, Ring.AtB22_drained _ _ 7 (by omega) rfl]
  iintro ⟨Ha, Hb, Hi, Hi'⟩
  isplitl [Ha Hi Hi']
  · isplitl [Ha]; · iexact Ha
    isplitl [Hi]; · iexact Hi
    iexact Hi'
  iintro ⟨⟨H7, H5, H6⟩, F1, F0⟩
  isplitl [Hb H7 H5 H6]
  · isplitl [H7]; · iexact H7
    isplitl [H5]; · iexact H5
    isplitl [H6]; · iexact H6
    iexact Hb
  isplitl [F1]; · iexact F1
  iexact F0

/-! ## Between two points -/

/-- The buffers' contents before point `p`. -/
def scrR (p : ℕ) : sProp 𝕄 := iprop(
  (∃ f : Buf (Elt F) (sigM.view.loc (c : Thread nD τ)), heldP c sigM f ∗ ⌜SigOK B (min p 8) f⌝)
  ∗ (∃ f : Buf (Elt F) (interM.view.loc (c : Thread nD τ)), heldP c interM f ∗ ⌜1 ≤ p → p ≤ 8 → interM.view.read (Elt F) f = interAcc B (p - 1)⌝)
  ∗ (∃ f : Buf (Elt F) (permM.view.loc (c : Thread nD τ)), heldP c permM f ∗ ⌜9 ≤ p → permM.view.read (Elt F) f = permOf ms⌝)
  ∗ (∃ f : Buf (Elt F) (wM.view.loc (c : Thread nD τ)), heldP c wM f ∗ ⌜9 ≤ p → wM.view.read (Elt F) f = wOf ms (interAcc B 7)⌝)
  ∗ (∃ f : Buf (Elt F) (iouM.view.loc (c : Thread nD τ)), heldP c iouM f))

/-- What holds before point `p`. -/
def Inv (p : ℕ) : sProp 𝕄 := iprop(ringR c ms B (p - 9) ∗ scrR c ms B p)

end

section
variable (c : Dev nD) (i : grid0.Coords)
  (arg1 : Memref sig .tc .vmem S1x300 .f32) (harg1 : arg1.IsWhole)
  (arg2 : Memref sig .tc .vmem S300x8x224 .f32) (harg2 : arg2.IsWhole)
  (arg3 : Memref sig .tc .vmem S300x8x224 .f32) (harg3 : arg3.IsWhole)
  (ms : Vec F S1x300 .f32) (B : Fin 2 → ℕ → Vec F S300x8x224 .f32)
  (g1 : Buf (Elt F) (arg1.view.loc (c : Thread nD τ))) (g2 : Buf (Elt F) (arg2.view.loc (c : Thread nD τ))) (g3 : Buf (Elt F) (arg3.view.loc (c : Thread nD τ)))
  (W : Waits sig Unit)

/-- What the body is given at a point, and what it leaves. -/
abbrev givenP : sProp 𝕄 := iprop(Inv c ms B (i 0).val ∗ owes (c : Thread nD τ) 0 W ∗ heldP c arg1 g1 ∗ heldP c arg2 g2 ∗ heldP c arg3 g3)
abbrev leftP : sProp 𝕄 := iprop(Inv c ms B ((i 0).val + 1) ∗ (∃ W', owes (c : Thread nD τ) 0 W') ∗ heldP c arg1 g1 ∗ heldP c arg2 g2 ∗ heldP c arg3 g3)

/-- The first point. -/
theorem step_zero (hi : (i 0).val = 0) (h0 : B 0 (i 0).val = arg2.view.read (Elt F) g2) (h1 : B 1 (i 0).val = arg3.view.read (Elt F) g3) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  iapply (phaseA0 c i arg1 harg1 arg2 harg2 arg3 harg3 hi g2 g3 fS fI)
  isplitl [H2 H3 HS HI]
  · isplitl [H2]; · iexact H2
    isplitl [H3]; · iexact H3
    isplitl [HS]; · iexact HS
    iexact HI
  iintro ⟨H2, H3, ⟨%fS', HS, %eS'⟩, ⟨%fI', HI, %eI'⟩⟩
  isplitr [HO H1 H2 H3]
  · isplitl [HR]
    · rw [show (i 0).val + 1 - 9 = (i 0).val - 9 by omega]; iexact HR
    isplitl [HS]
    · iexists fS'; isplitl [HS]; · iexact HS
      ipureintro
      rw [show min ((i 0).val + 1) 8 = (i 0).val + 1 by omega]
      rw [show min (i 0).val 8 = (i 0).val by omega] at eS
      exact eS' B eS h0 h1
    isplitl [HI]
    · iexists fI'; isplitl [HI]; · iexact HI
      ipureintro
      intro _ _
      rw [hi] at h0 h1
      rw [eI', ← h0, ← h1, show (i 0).val + 1 - 1 = 0 by omega]; rfl
    isplitl [HP]
    · iexists fP; isplitl [HP]; · iexact HP
      ipureintro; intro h; omega
    isplitl [HW]
    · iexists fW; isplitl [HW]; · iexact HW
      ipureintro; intro h; omega
    iexists fU; iexact HU
  isplitl [HO]; · iexists _; iexact HO
  isplitl [H1]; · iexact H1
  isplitl [H2]; · iexact H2
  iexact H3

/-- A later point of phase A. -/
theorem step_A (hi : 0 < (i 0).val) (hi' : (i 0).val < 8) (h0 : B 0 (i 0).val = arg2.view.read (Elt F) g2) (h1 : B 1 (i 0).val = arg3.view.read (Elt F) g3) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  iapply (phaseA c i arg1 harg1 arg2 harg2 arg3 harg3 hi hi' g2 g3 fS fI)
  isplitl [H2 H3 HS HI]
  · isplitl [H2]; · iexact H2
    isplitl [H3]; · iexact H3
    isplitl [HS]; · iexact HS
    iexact HI
  iintro ⟨H2, H3, ⟨%fS', HS, %eS'⟩, ⟨%fI', HI, %eI'⟩⟩
  isplitr [HO H1 H2 H3]
  · isplitl [HR]
    · rw [show (i 0).val + 1 - 9 = (i 0).val - 9 by omega]; iexact HR
    isplitl [HS]
    · iexists fS'; isplitl [HS]; · iexact HS
      ipureintro
      rw [show min ((i 0).val + 1) 8 = (i 0).val + 1 by omega]
      rw [show min (i 0).val 8 = (i 0).val by omega] at eS
      exact eS' B eS h0 h1
    isplitl [HI]
    · iexists fI'; isplitl [HI]; · iexact HI
      ipureintro
      intro _ _
      obtain ⟨n, hn⟩ : ∃ n, (i 0).val = n + 1 := ⟨(i 0).val - 1, by omega⟩
      rw [hn] at h0 h1 eI
      rw [eI', ← h0, ← h1, eI (by omega) (by omega), hn]; rfl
    isplitl [HP]
    · iexists fP; isplitl [HP]; · iexact HP
      ipureintro; intro h; omega
    isplitl [HW]
    · iexists fW; isplitl [HW]; · iexact HW
      ipureintro; intro h; omega
    iexists fU; iexact HU
  isplitl [HO]; · iexists _; iexact HO
  isplitl [H1]; · iexact H1
  isplitl [H2]; · iexact H2
  iexact H3

/-- The ninth point. -/
theorem step_B (hi : (i 0).val = 8) (hm : arg1.view.read (Elt F) g1 = ms) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  rw [hi] at eI eS
  iapply (phaseB c i arg1 harg1 arg2 harg2 arg3 harg3 hi g1 fI fP fW fU)
  isplitl [H1 HI HP HW HU]
  · isplitl [H1]; · iexact H1
    isplitl [HI]; · iexact HI
    isplitl [HP]; · iexact HP
    isplitl [HW]; · iexact HW
    iexact HU
  iintro ⟨H1, HI, ⟨%fP', HP, %eP'⟩, ⟨%fW', HW, %eW'⟩, ⟨%fU', HU⟩⟩
  isplitr [HO H1 H2 H3]
  · isplitl [HR]
    · rw [show (i 0).val + 1 - 9 = (i 0).val - 9 by omega]; iexact HR
    isplitl [HS]
    · iexists fS; isplitl [HS]; · iexact HS
      ipureintro
      rw [hi]; exact eS
    isplitl [HI]
    · iexists fI; isplitl [HI]; · iexact HI
      ipureintro
      intro _ h; omega
    isplitl [HP]
    · iexists fP'; isplitl [HP]; · iexact HP
      ipureintro; intro _; rw [eP', hm]
    isplitl [HW]
    · iexists fW'; isplitl [HW]; · iexact HW
      ipureintro; intro _; rw [eW', hm, eI (by omega) (by omega)]
    iexists fU'; iexact HU
  isplitl [HO]; · iexists _; iexact HO
  isplitl [H1]; · iexact H1
  isplitl [H2]; · iexact H2
  iexact H3

/-- The first two points of phase C. -/
theorem step_C0 (hi : 9 ≤ (i 0).val) (hi' : (i 0).val < 11) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  rw [show min (i 0).val 8 = 8 by omega] at eS
  replace eP := eP (by omega)
  replace eW := eW (by omega)
  have hbk : (Ring.bk 8 ((i 0).val - 9) : Fin 8).val = (i 0).val - 9 := Ring.bk_val (by omega)
  ihave HR' := (ring_first c ms B ((i 0).val - 9) (by omega)) $$ HR
  unfold aheadR freeR inflR
  icases HR' with ⟨⟨⟨⟨%fo0, Ho0⟩, ⟨%fo1, Ho1⟩⟩, Hc0, Hc1, ⟨%ft0, Ht0⟩, ⟨%ft1, Ht1⟩⟩, Hk⟩
  iapply (phaseC0 c i arg1 harg1 arg2 harg2 arg3 harg3 hi hi' fS fP fW ft0 ft1 fo0 fo1 B eS)
  isplitl [HS HP HW Ht0 Ht1 Ho0 Ho1 Hc0 Hc1]
  · isplitl [HS]; · iexact HS
    isplitl [HP]; · iexact HP
    isplitl [HW]; · iexact HW
    isplitl [Ht0]; · iexact Ht0
    isplitl [Ht1]; · iexact Ht1
    isplitl [Ho0]; · iexact Ho0
    isplitl [Ho1]; · iexact Ho1
    isplitl [Hc0]; · iexact Hc0
    iexact Hc1
  rw [eP, eW]
  iintro ⟨HS, HP, HW, F0, F1⟩
  isplitr [HO H1 H2 H3]
  · isplitl [Hk F0 F1]
    · rw [show (i 0).val + 1 - 9 = (i 0).val - 9 + 1 by omega]
      iapply Hk
      unfold outVal
      rw [hbk]
      isplitl [F0]; · iexact F0
      iexact F1
    isplitl [HS]
    · iexists fS; isplitl [HS]; · iexact HS
      ipureintro
      rw [show min ((i 0).val + 1) 8 = 8 by omega]; exact eS
    isplitl [HI]
    · iexists fI; isplitl [HI]; · iexact HI
      ipureintro
      intro _ h; omega
    isplitl [HP]
    · iexists fP; isplitl [HP]; · iexact HP
      ipureintro; intro _; exact eP
    isplitl [HW]
    · iexists fW; isplitl [HW]; · iexact HW
      ipureintro; intro _; exact eW
    iexists fU; iexact HU
  isplitl [HO]; · iexists _; iexact HO
  isplitl [H1]; · iexact H1
  isplitl [H2]; · iexact H2
  iexact H3

/-- A later point of phase C, not the last. -/
theorem step_C (hi : 11 ≤ (i 0).val) (hi' : (i 0).val < 16) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  rw [show min (i 0).val 8 = 8 by omega] at eS
  replace eP := eP (by omega)
  replace eW := eW (by omega)
  have hbk : (Ring.bk 8 ((i 0).val - 9) : Fin 8).val = (i 0).val - 9 := Ring.bk_val (by omega)
  ihave HR' := (ring_mid c ms B ((i 0).val - 9) (by omega) (by omega)) $$ HR
  unfold aheadR inflR behindR
  icases HR' with ⟨⟨⟨⟨%fo0, Ho0⟩, ⟨%fo1, Ho1⟩⟩, ⟨%fp0, %ft0, F0, %e0⟩, ⟨%fp1, %ft1, F1, %e1⟩⟩, Hk⟩
  iapply (phaseC c i arg1 harg1 arg2 harg2 arg3 harg3 hi hi' fS fP fW ft0 ft1 fp0 fp1 fo0 fo1 B eS W)
  isplitl [HO HS HP HW Ho0 Ho1 F0 F1]
  · isplitl [HO]; · iexact HO
    isplitl [HS]; · iexact HS
    isplitl [HP]; · iexact HP
    isplitl [HW]; · iexact HW
    isplitl [Ho0]; · iexact Ho0
    isplitl [Ho1]; · iexact Ho1
    isplitl [F0]; · iexact F0
    iexact F1
  rw [eP, eW]
  iintro ⟨HO, HS, HP, HW, D0, D1, F0, F1⟩
  isplitr [HO H1 H2 H3]
  · isplitl [Hk D0 D1 F0 F1]
    · rw [show (i 0).val + 1 - 9 = (i 0).val - 9 + 1 by omega]
      iapply Hk
      isplitl [D0 D1]
      · isplitl [D0]
        · iexists fp0; isplitl [D0]; · iexact D0
          ipureintro; exact e0
        · iexists fp1; isplitl [D1]; · iexact D1
          ipureintro; exact e1
      unfold outVal
      rw [hbk]
      isplitl [F0]; · iexact F0
      iexact F1
    isplitl [HS]
    · iexists fS; isplitl [HS]; · iexact HS
      ipureintro
      rw [show min ((i 0).val + 1) 8 = 8 by omega]; exact eS
    isplitl [HI]
    · iexists fI; isplitl [HI]; · iexact HI
      ipureintro
      intro _ h; omega
    isplitl [HP]
    · iexists fP; isplitl [HP]; · iexact HP
      ipureintro; intro _; exact eP
    isplitl [HW]
    · iexists fW; isplitl [HW]; · iexact HW
      ipureintro; intro _; exact eW
    iexists fU; iexact HU
  isplitl [HO]; · iexact HO
  isplitl [H1]; · iexact H1
  isplitl [H2]; · iexact H2
  iexact H3

/-- The last point. -/
theorem step_last (hi : (i 0).val = 16) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  unfold givenP leftP Inv scrR
  iintro ⟨⟨HR, ⟨%fS, HS, %eS⟩, ⟨%fI, HI, %eI⟩, ⟨%fP, HP, %eP⟩, ⟨%fW, HW, %eW⟩, ⟨%fU, HU⟩⟩, HO, H1, H2, H3⟩
  rw [show min (i 0).val 8 = 8 by omega] at eS
  replace eP := eP (by omega)
  replace eW := eW (by omega)
  rw [show (i 0).val - 9 = 7 by omega]
  ihave HR' := (ring_last c ms B) $$ HR
  unfold aheadR inflR behindR freeR
  icases HR' with ⟨⟨⟨⟨%fo07, Ho0⟩, ⟨%fo17, Ho1⟩⟩, ⟨⟨%fo05, %ft01, F05, %e05⟩, ⟨%fo15, %ft11, F15, %e15⟩⟩, ⟨⟨%fo06, %ft00, F06, %e06⟩, ⟨%fo16, %ft10, F16, %e16⟩⟩⟩, Hk⟩
  iapply (phaseC_last c i arg1 harg1 arg2 harg2 arg3 harg3 hi fS fP fW ft00 ft01 fo05 fo06 fo07 ft10 ft11 fo15 fo16 fo17 B eS W)
  isplitl [HO HS HP HW Ho0 Ho1 F05 F15 F06 F16]
  · isplitl [HO]; · iexact HO
    isplitl [HS]; · iexact HS
    isplitl [HP]; · iexact HP
    isplitl [HW]; · iexact HW
    isplitl [Ho0]; · iexact Ho0
    isplitl [Ho1]; · iexact Ho1
    isplitl [F05]; · iexact F05
    isplitl [F15]; · iexact F15
    isplitl [F06]; · iexact F06
    iexact F16
  rw [eP, eW]
  iintro ⟨HO, HS, HP, HW, D07, D17, D05, D15, D06, D16, T01, T11, T00, T10, C01, C11, C00, C10⟩
  isplitr [HO H1 H2 H3]
  · isplitr [HS HI HP HW HU]
    · rw [show (i 0).val + 1 - 9 = 8 by omega]
      iapply Hk
      isplitl [D07 D17 D05 D15 D06 D16]
      · isplitl [D07 D17]
        · isplitl [D07]; · iexact D07
          iexact D17
        isplitl [D05 D15]
        · isplitl [D05]
          · iexists fo05; isplitl [D05]; · iexact D05
            ipureintro; exact e05
          · iexists fo15; isplitl [D15]; · iexact D15
            ipureintro; exact e15
        · isplitl [D06]
          · iexists fo06; isplitl [D06]; · iexact D06
            ipureintro; exact e06
          · iexists fo16; isplitl [D16]; · iexact D16
            ipureintro; exact e16
      isplitl [T01 T11 C01 C11]
      · isplitl [C01]; · iexact C01
        isplitl [C11]; · iexact C11
        isplitl [T01]; · iexact T01
        iexact T11
      · isplitl [C00]; · iexact C00
        isplitl [C10]; · iexact C10
        isplitl [T00]; · iexact T00
        iexact T10
    isplitl [HS]
    · iexists fS; isplitl [HS]; · iexact HS
      ipureintro
      rw [show min ((i 0).val + 1) 8 = 8 by omega]; exact eS
    isplitl [HI]
    · iexists fI; isplitl [HI]; · iexact HI
      ipureintro
      intro _ h; omega
    isplitl [HP]
    · iexists fP; isplitl [HP]; · iexact HP
      ipureintro; intro _; exact eP
    isplitl [HW]
    · iexists fW; isplitl [HW]; · iexact HW
      ipureintro; intro _; exact eW
    iexists fU; iexact HU
  isplitl [HO]; · iexact HO
  isplitl [H1]; · iexact H1
  isplitl [H2]; · iexact H2
  iexact H3

/-- At every point the body carries what holds before the point to what holds before the next. -/
theorem step (hm : arg1.view.read (Elt F) g1 = ms) (h0 : (i 0).val < 8 → B 0 (i 0).val = arg2.view.read (Elt F) g2)
    (h1 : (i 0).val < 8 → B 1 (i 0).val = arg3.view.read (Elt F) g3) :
    givenP c i arg1 arg2 arg3 ms B g1 g2 g3 W ⊢ wp frame (wpE (defs₀ (F := F)) 𝒱₀ (c : Thread nD τ) none) Set.univ (bodyG i arg1 harg1 arg2 harg2 arg3 harg3)
      (fun _ => leftP c i arg1 arg2 arg3 ms B g1 g2 g3) := by
  have hlt := coord_lt i
  by_cases a0 : (i 0).val = 0
  · exact step_zero c i arg1 harg1 arg2 harg2 arg3 harg3 ms B g1 g2 g3 W a0 (h0 (by omega)) (h1 (by omega))
  by_cases a8 : (i 0).val < 8
  · exact step_A c i arg1 harg1 arg2 harg2 arg3 harg3 ms B g1 g2 g3 W (by omega) a8 (h0 a8) (h1 a8)
  by_cases b8 : (i 0).val = 8
  · exact step_B c i arg1 harg1 arg2 harg2 arg3 harg3 ms B g1 g2 g3 W b8 hm
  by_cases c11 : (i 0).val < 11
  · exact step_C0 c i arg1 harg1 arg2 harg2 arg3 harg3 ms B g1 g2 g3 W (by omega) c11
  by_cases c16 : (i 0).val < 16
  · exact step_C c i arg1 harg1 arg2 harg2 arg3 harg3 ms B g1 g2 g3 W (by omega) c16
  · exact step_last c i arg1 harg1 arg2 harg2 arg3 harg3 ms B g1 g2 g3 W (by omega)

end
end Cert.Proof

end
-- ==== Proof.Blocks.lean ====
/-
  The result cut into the sixteen blocks the kernel writes, and the output buffer into its four tiles.
-/
module

public import proofs.«01_k».proof.Proof.Steps

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

omit [FloatOps F] in
theorem ent_of_eq {P Q : sProp 𝕄} (e : P = Q) : P ⊢ Q := by subst e; exact .rfl

omit [FloatOps F] in
/-- Disjoint sets of elements that make up a buffer, each held at contents of its own, are the buffer held whole at
    contents that agree with each on its set. -/
theorem blocks_whole {ℓ : Loc nD τ sig} {T : Type} [Fintype T] [DecidableEq T] (I : T → Finset (Idx ℓ))
    (hd : ∀ b b', b ≠ b' → Disjoint (I b) (I b')) (hc : Finset.univ.biUnion I = Finset.univ) (fs : T → Buf (Elt F) ℓ) (f₀ : Buf (Elt F) ℓ) :
    bigSep Finset.univ (fun b => (ℓ ↦[I b]{fullShare} fs b : sProp 𝕄))
      ⊢ (iprop(∃ g, ⌜∀ b, ∀ i ∈ I b, g i = fs b i⌝ ∗ ℓ ↦{fullShare} g) : sProp 𝕄) := by
  refine (pointsTo_biUnion_join Finset.univ I fs f₀ (fun b _ b' _ h => hd b b' h)).trans ?_
  rw [hc]
  iintro ⟨%g, %hg, H⟩
  iexists g
  isplitr
  · ipureintro; exact fun b i hi => hg b (Finset.mem_univ _) i hi
  iexact H

/-- The elements of block `u` of stream `s` of the result; the index puts `u` first. -/
def outS (p : Fin 8 × Fin 2) : Finset S300x128x224.Idx :=
  (Rect.unit (s := S300x128x224) (outOff p.2 p.1) S300x8x224.size (outOff_inb p.2 p.1)).set
theorem mem_outS (p : Fin 8 × Fin 2) (y : S300x128x224.Idx) : y ∈ outS p ↔ (y 1).val / 8 = p.1.val + 8 * p.2.val := by
  unfold outS
  rw [Rect.mem_set_unit]
  have h0 : (y 0).val < 300 := (y 0).isLt
  have h2 : (y 2).val < 224 := (y 2).isLt
  constructor
  · intro H; have a1 : 8 * p.1.val + 64 * p.2.val ≤ (y 1).val ∧ (y 1).val < 8 * p.1.val + 64 * p.2.val + 8 := H 1; omega
  · intro H i; fin_cases i
    · show 0 ≤ (y 0).val ∧ (y 0).val < 0 + 300; omega
    · show 8 * p.1.val + 64 * p.2.val ≤ (y 1).val ∧ (y 1).val < 8 * p.1.val + 64 * p.2.val + 8; omega
    · show 0 ≤ (y 2).val ∧ (y 2).val < 0 + 224; omega
theorem outS_disjoint : ∀ b b' : Fin 8 × Fin 2, b ≠ b' → Disjoint (outS b) (outS b') := by
  intro b b' hne; rw [Finset.disjoint_left]; intro y hy hy'; rw [mem_outS] at hy hy'
  have h1 := b.1.isLt; have h2 := b'.1.isLt
  exact hne (Prod.ext (Fin.ext (by omega)) (Fin.ext (by omega)))
theorem outS_cover : (Finset.univ : Finset (Fin 8 × Fin 2)).biUnion outS = Finset.univ := by
  ext y; simp only [Finset.mem_biUnion, Finset.mem_univ, true_and, iff_true]
  have h1 : (y 1).val < 128 := (y 1).isLt
  exact ⟨(⟨(y 1).val / 8 % 8, by omega⟩, ⟨(y 1).val / 64, by omega⟩), by rw [mem_outS]; show (y 1).val / 8 = (y 1).val / 8 % 8 + 8 * ((y 1).val / 64); omega⟩
theorem outB_set (s : Fin 2) (u : Fin 8) : (outB s u).view.set = outS (u, s) := View.set_slice_whole _ _

/-- The elements of tile `(s, a)` of the output buffer; the index puts `a` first. -/
def tileS (p : Fin 2 × Fin 2) : Finset S2x2x300x8x224.Idx :=
  (Rect.unit (s := S2x2x300x8x224) (tileOff p.2 p.1) S1x1x300x8x224.size (tileOff_inb p.2 p.1)).set
theorem mem_tileS (p : Fin 2 × Fin 2) (y : S2x2x300x8x224.Idx) : y ∈ tileS p ↔ (y 0).val = p.2.val ∧ (y 1).val = p.1.val := by
  unfold tileS
  rw [Rect.mem_set_unit]
  have h2 : (y 2).val < 300 := (y 2).isLt
  have h3 : (y 3).val < 8 := (y 3).isLt
  have h4 : (y 4).val < 224 := (y 4).isLt
  constructor
  · intro H
    have a0 : p.2.val ≤ (y 0).val ∧ (y 0).val < p.2.val + 1 := H 0
    have a1 : p.1.val ≤ (y 1).val ∧ (y 1).val < p.1.val + 1 := H 1
    omega
  · intro H i; fin_cases i
    · show p.2.val ≤ (y 0).val ∧ (y 0).val < p.2.val + 1; omega
    · show p.1.val ≤ (y 1).val ∧ (y 1).val < p.1.val + 1; omega
    · show 0 ≤ (y 2).val ∧ (y 2).val < 0 + 300; omega
    · show 0 ≤ (y 3).val ∧ (y 3).val < 0 + 8; omega
    · show 0 ≤ (y 4).val ∧ (y 4).val < 0 + 224; omega
theorem tileS_disjoint : ∀ b b' : Fin 2 × Fin 2, b ≠ b' → Disjoint (tileS b) (tileS b') := by
  intro b b' hne; rw [Finset.disjoint_left]; intro y hy hy'; rw [mem_tileS] at hy hy'
  exact hne (Prod.ext (Fin.ext (by omega)) (Fin.ext (by omega)))
theorem tileS_cover : (Finset.univ : Finset (Fin 2 × Fin 2)).biUnion tileS = Finset.univ := by
  ext y; simp only [Finset.mem_biUnion, Finset.mem_univ, true_and, iff_true]
  have h0 : (y 0).val < 2 := (y 0).isLt
  have h1 : (y 1).val < 2 := (y 1).isLt
  exact ⟨(⟨(y 1).val, h1⟩, ⟨(y 0).val, h0⟩), by rw [mem_tileS]; exact ⟨rfl, rfl⟩⟩
theorem tile_set (s a : Fin 2) : (tile s a).view.set = tileS (a, s) := (View.set_reshape _ _).trans (View.set_slice_whole _ _)

section
variable (c : Dev nD) (ms : Vec F S1x300 .f32) (B : Fin 2 → ℕ → Vec F S300x8x224 .f32)

omit [FloatOps F] in
theorem outB_held (s : Fin 2) (u : Fin 8) (f : Buf (Elt F) ((c : Thread nD τ).loc main_v14)) :
    heldP c (outB s u) f = (((c : Thread nD τ).loc main_v14) ↦[outS (u, s)]{fullShare} f : sProp 𝕄) :=
  congrArg (fun S => (_ ↦[S]{fullShare} f : sProp 𝕄)) (outB_set s u)
omit [FloatOps F] in
theorem tile_held (s a : Fin 2) (f : Buf (Elt F) ((c : Thread nD τ).loc cc0_scratch5)) :
    heldP c (tile s a) f = (((c : Thread nD τ).loc cc0_scratch5) ↦[tileS (a, s)]{fullShare} f : sProp 𝕄) :=
  congrArg (fun S => (_ ↦[S]{fullShare} f : sProp 𝕄)) (tile_set s a)

omit [FloatOps F] in
theorem out_split_one (f : Buf (Elt F) ((c : Thread nD τ).loc main_v14)) (u : Fin 8) :
    (bigSep Finset.univ (fun s : Fin 2 => (((c : Thread nD τ).loc main_v14) ↦[outS (u, s)]{fullShare} f : sProp 𝕄))) ⊢ aheadR c u := by
  rw [Ring.bigSep_fin2]
  unfold aheadR
  iintro ⟨H0, H1⟩
  isplitl [H0]
  · iexists f; iapply (ent_of_eq (outB_held c 0 u f).symm); iexact H0
  · iexists f; iapply (ent_of_eq (outB_held c 1 u f).symm); iexact H1

omit [FloatOps F] in
/-- The result whole is its blocks, none written; -/
theorem out_split (f : Buf (Elt F) ((c : Thread nD τ).loc main_v14)) :
    (((c : Thread nD τ).loc main_v14) ↦{fullShare} f : sProp 𝕄) ⊢ bigSep Finset.univ (aheadR c) := by
  rw [Ring.pointsTo_blocks (ℓ := (c : Thread nD τ).loc main_v14) outS outS_disjoint outS_cover, BI.bigSep_univ_prod]
  exact BI.bigSep_mono fun u _ => out_split_one c f u

/-- A piece of the result written with `v`, at the contents that name `v` alone. -/
theorem done_rep (v : Vec F S300x8x224 .f32) (s : Fin 2) (u : Fin 8) :
    doneP c v s u ⊢ (((c : Thread nD τ).loc main_v14) ↦[outS (u, s)]{fullShare} (outB s u).view.rep v : sProp 𝕄) := by
  unfold doneP
  iintro ⟨%f0, H0, %e0⟩
  ihave H0' := (pointsTo_rep_entails (c : Thread nD τ) (outB s u) f0 fullShare) $$ H0
  rw [e0]
  iapply (ent_of_eq (outB_held c s u _)); iexact H0'

/-- What names block `p`'s contents alone. -/
def repP (p : Fin 8 × Fin 2) : Buf (Elt F) ((c : Thread nD τ).loc main_v14) := (outB p.2 p.1).view.rep (outVal ms B p.2 p.1.val)
theorem repP_read (g : Buf (Elt F) ((c : Thread nD τ).loc main_v14)) (s : Fin 2) (u : Fin 8) (hg : ∀ y ∈ outS (u, s), g y = repP c ms B (u, s) y) :
    (outB s u).view.read (Elt F) g = outVal ms B s u.val := by
  refine Eq.trans ?_ ((outB s u).view.read_rep (outVal ms B s u.val))
  funext y
  exact congrArg (cast _) (hg _ (by rw [← outB_set]; exact View.emb_mem_set _ y))

theorem out_join_one (u : Fin 8) :
    behindR c ms B u ⊢ (bigSep Finset.univ (fun s : Fin 2 => (((c : Thread nD τ).loc main_v14) ↦[outS (u, s)]{fullShare} repP c ms B (u, s) : sProp 𝕄))) := by
  rw [Ring.bigSep_fin2]
  unfold behindR
  iintro ⟨H0, H1⟩
  isplitl [H0]
  · iapply (done_rep c _ 0 u); iexact H0
  · iapply (done_rep c _ 1 u); iexact H1

/-- The contents `g` hold, in each block, what was written there. -/
def Written (g : Buf (Elt F) ((c : Thread nD τ).loc main_v14)) : Prop :=
  ∀ (s : Fin 2) (u : Fin 8), (outB s u).view.read (Elt F) g = outVal ms B s u.val
theorem written_of (g : Buf (Elt F) ((c : Thread nD τ).loc main_v14)) (h : ∀ b, ∀ i ∈ outS b, g i = repP c ms B b i) : Written c ms B g :=
  fun s u => repP_read c ms B g s u fun y hy => h (u, s) y hy

theorem out_join_rep : bigSep Finset.univ (behindR c ms B)
      ⊢ bigSep (Finset.univ : Finset (Fin 8 × Fin 2)) (fun p => (((c : Thread nD τ).loc main_v14) ↦[outS p]{fullShare} repP c ms B p : sProp 𝕄)) := by
  rw [BI.bigSep_univ_prod]
  exact BI.bigSep_mono fun u _ => out_join_one c ms B u

/-- and the blocks, all written, are the result whole, each block of it at what was written there. -/
theorem out_join :
    bigSep Finset.univ (behindR c ms B)
      ⊢ iprop(∃ g : Buf (Elt F) ((c : Thread nD τ).loc main_v14), ⌜Written c ms B g⌝ ∗ (((c : Thread nD τ).loc main_v14) ↦{fullShare} g : sProp 𝕄)) := by
  refine (out_join_rep c ms B).trans ((blocks_whole (ℓ := (c : Thread nD τ).loc main_v14) outS outS_disjoint outS_cover (repP c ms B) (repP c ms B (0, 0))).trans ?_)
  iintro ⟨%g, %hg, H⟩
  iexists g
  isplitr
  · ipureintro; exact written_of c ms B g hg
  iexact H

omit [FloatOps F] in
/-- The output buffer whole is its tiles at anything; -/
theorem tile_split :
    iprop(∃ f : Buf (Elt F) ((c : Thread nD τ).loc cc0_scratch5), ((c : Thread nD τ).loc cc0_scratch5) ↦{fullShare} f)
      ⊢ (iprop((tileP c 0 0 ∗ tileP c 1 0) ∗ (tileP c 0 1 ∗ tileP c 1 1)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch5) tileS tileS_disjoint tileS_cover f).trans
    ((BI.bigSep_univ_prod _).trans ((Ring.bigSep_fin2 _).trans (congrArg₂ (fun a b => iprop(a ∗ b)) (Ring.bigSep_fin2 _) (Ring.bigSep_fin2 _)))))) $$ H
  icases H2 with ⟨⟨H00, H10⟩, H01, H11⟩
  isplitl [H00 H10]
  · isplitl [H00]
    · iexists f; iapply (ent_of_eq (tile_held c 0 0 f).symm); iexact H00
    · iexists f; iapply (ent_of_eq (tile_held c 1 0 f).symm); iexact H10
  · isplitl [H01]
    · iexists f; iapply (ent_of_eq (tile_held c 0 1 f).symm); iexact H01
    · iexists f; iapply (ent_of_eq (tile_held c 1 1 f).symm); iexact H11
omit [FloatOps F] in
/-- and back. -/
theorem tile_join :
    (iprop((tileP c 0 0 ∗ tileP c 1 0) ∗ (tileP c 0 1 ∗ tileP c 1 1)) : sProp 𝕄)
      ⊢ iprop(∃ f : Buf (Elt F) ((c : Thread nD τ).loc cc0_scratch5), ((c : Thread nD τ).loc cc0_scratch5) ↦{fullShare} f) := by
  iintro ⟨⟨⟨%f00, H00⟩, ⟨%f10, H10⟩⟩, ⟨%f01, H01⟩, ⟨%f11, H11⟩⟩
  iapply (Ring.pointsTo_blocks_join_exists (ℓ := (c : Thread nD τ).loc cc0_scratch5) tileS tileS_disjoint tileS_cover f00)
  irw [BI.bigSep_univ_prod, Ring.bigSep_fin2, Ring.bigSep_fin2, Ring.bigSep_fin2]
  isplitl [H00 H10]
  · isplitl [H00]
    · iexists f00; iapply (ent_of_eq (tile_held c 0 0 f00)); iexact H00
    · iexists f10; iapply (ent_of_eq (tile_held c 1 0 f10)); iexact H10
  · isplitl [H01]
    · iexists f01; iapply (ent_of_eq (tile_held c 0 1 f01)); iexact H01
    · iexists f11; iapply (ent_of_eq (tile_held c 1 1 f11)); iexact H11

end
end Cert.Proof

end
-- ==== Proof.Launch.lean ====
/-
  The launch: what each window's block is, that the body meets the pipeline's obligation at every point, and the run of
  the whole program, for any float values.
-/
module

public import proofs.«01_k».proof.Proof.Blocks
public import proofs.«01_k».proof.Proof.Gen.KernelIdeal.Frame
public import proofs.«01_k».proof.Proof.Gen.KernelIdeal.Points

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The machine at launch. -/
abbrev s₀' : MemSt nD τ sig (Elt F) := ⟨m, fun _ => 0, ρ⟩

/-- The grid's `r`-th point. -/
def pt (r : ℕ) : Fin cfg0.N := ⟨r % 17, by rw [show cfg0.N = 17 from N_0]; exact Nat.mod_lt _ (by decide)⟩
theorem coords_val : ∀ t : Fin cfg0.N, ((grid0.coords t) 0).val = t.val := (by decide +kernel : ∀ t : Fin grid0.N, ((grid0.coords t) 0).val = t.val)
theorem pt_val (t : Fin cfg0.N) : pt t.val = t := Fin.ext (Nat.mod_eq_of_lt (t.isLt.trans_le (le_of_eq N_0)))

/-- The scores the kernel reads. -/
def msOf (c : Dev nD) : Vec F S1x300 .f32 := iblk m c 0 (pt 0)
/-- The blocks of the masks the kernel reads: stream `s` at its point `r`. -/
def blksOf (c : Dev nD) (s : Fin 2) (r : ℕ) : Vec F S300x8x224 .f32 := if s = 0 then iblk m c 1 (pt r) else iblk m c 2 (pt r)

theorem iblk0_const (c : Dev nD) (t : Fin cfg0.N) : iblk m c 0 t = msOf m c := rfl
theorem blks_zero (c : Dev nD) (t : Fin cfg0.N) : blksOf m c 0 t.val = iblk m c 1 t := by unfold blksOf; rw [if_pos rfl, pt_val]
theorem blks_one (c : Dev nD) (t : Fin cfg0.N) : blksOf m c 1 t.val = iblk m c 2 t := by unfold blksOf; rw [if_neg (by decide), pt_val]

/-- The pipeline's proof data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ p := Inv c (msOf m c) (blksOf m c) p.val
  q w := Pipeline.shareOf spec0 w
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem datA (c : Dev nD) (w : Fin cfg0.W) : (dats m 0 c).A w = V m c (Pipeline.arrRef spec0 w) := rfl

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [datA]; try rfl) t d).trans
    (by unfold Dat.fetched Dat.blockOf iblk; rw [datA]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [datA]; try rfl) t d).trans
    (by unfold Dat.fetched Dat.blockOf iblk; rw [datA]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [datA]; try rfl) t d).trans
    (by unfold Dat.fetched Dat.blockOf iblk; rw [datA]; try rfl)

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)

theorem defs_tc : (defs₀ (F := F)) .tc cfg0.body = fun a => bodyG (grid0.coords a.1)
    (win0_0.stage (a.2 0)) (hstage0_0 ((a.2 0).cast nbuf0_0)) (win0_1.stage (a.2 1)) (hstage0_1 ((a.2 1).cast nbuf0_1))
    (win0_2.stage (a.2 2)) (hstage0_2 ((a.2 2).cast nbuf0_2)) := rfl
theorem prog_eq (t : Fin cfg0.N) : (defs₀ (F := F)) .tc cfg0.body (cfg0.bodyArgs t (cfg0.slots t))
    = bodyG (grid0.coords t) (st0_0 t) (hst0 t) (st0_1 t) (hst1 t) (st0_2 t) (hst2 t) := (congrFun defs_tc _).trans rfl

/-- The body at the grid's point `p`, for any post that what it leaves gives. -/
theorem step_at (c : Dev nD) (i : grid0.Coords) (p : ℕ) (hp : (i 0).val = p)
    (arg1 : Memref sig .tc .vmem S1x300 .f32) (harg1 : arg1.IsWhole)
    (arg2 : Memref sig .tc .vmem S300x8x224 .f32) (harg2 : arg2.IsWhole)
    (arg3 : Memref sig .tc .vmem S300x8x224 .f32) (harg3 : arg3.IsWhole)
    (ms : Vec F S1x300 .f32) (B : Fin 2 → ℕ → Vec F S300x8x224 .f32)
    (g1 : Buf (Elt F) (arg1.view.loc (c : Thread nD τ))) (g2 : Buf (Elt F) (arg2.view.loc (c : Thread nD τ))) (g3 : Buf (Elt F) (arg3.view.loc (c : Thread nD τ)))
    (W : Waits sig Unit) (Q : PUnit → sProp 𝕄)
    (hm : arg1.view.read (Elt F) g1 = ms) (h0 : B 0 p = arg2.view.read (Elt F) g2) (h1 : B 1 p = arg3.view.read (Elt F) g3) :
    iprop((Inv c ms B p ∗ owes (c : Thread nD τ) 0 W ∗ heldP c arg1 g1 ∗ heldP c arg2 g2 ∗ heldP c arg3 g3)
      ∗ ((Inv c ms B (p + 1) ∗ (∃ W', owes (c : Thread nD τ) 0 W') ∗ heldP c arg1 g1 ∗ heldP c arg2 g2 ∗ heldP c arg3 g3) -∗ Q ⟨⟩))
      ⊢ wp frame (wpE (defs₀ (F := F)) 𝒱₀ (c : Thread nD τ) none) Set.univ (bodyG i arg1 harg1 arg2 harg2 arg3 harg3) Q := by
  subst hp
  iintro ⟨H, Hk⟩
  ihave Hw := (step c i arg1 harg1 arg2 harg2 arg3 harg3 ms B g1 g2 g3 W hm (fun _ => h0) (fun _ => h1)) $$ H
  iapply (wp_wand_r frame (wpE (defs₀ (F := F)) 𝒱₀ (c : Thread nD τ) none) Set.univ)
  isplitl [Hw]; · iexact Hw
  iintro %a HL
  iapply Hk
  iexact HL

set_option backward.isDefEq.respectTransparency.types false in
/-- At every point the body meets the pipeline's obligation. -/
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  rw [show (dats m 0 c).Φ t.castSucc = Inv c (msOf m c) (blksOf m c) t.val from rfl,
    show (dats m 0 c).Φ t.succ = Inv c (msOf m c) (blksOf m c) (t.val + 1) from rfl]
  unfold Dat.owesAt Pipeline.owesWithin
  rw [show (dats m 0 c).owed t.castSucc = 0 from rfl, show (dats m 0 c).owed t.succ = 0 from rfl]
  unfold owns
  iintro ⟨HI, ⟨%W, -, HW⟩, ⟨%d0, %g0, %hg0, H0⟩, ⟨%d1, %g1, %hg1, H1⟩, ⟨%d2, %g2, %hg2, H2⟩⟩
  sl_rw [prog_eq t]
  iapply (step_at (F := F) c (grid0.coords t) t.val (coords_val t) (st0_0 t) (hst0 t) (st0_1 t) (hst1 t) (st0_2 t) (hst2 t) (msOf m c) (blksOf m c) g0 g1 g2 W _
    (hg0.trans (iblk0_const m c t)) ((blks_zero m c t).trans hg1.symm) ((blks_one m c t).trans hg2.symm))
  isplitl [HI HW H0 H1 H2]
  · isplitl [HI]; · iexact HI
    isplitl [HW]; · iexact HW
    isplitl [H0]; · iexact H0
    isplitl [H1]; · iexact H1
    iexact H2
  iintro ⟨HI, ⟨%W', HW⟩, H0, H1, H2⟩
  isplitl [HI]; · iexact HI
  isplitl [HW]
  · iexists W'; isplitr; · ipureintro; exact fun _ _ => Or.inl trivial
    iexact HW
  isplitl [H0]
  · iexists _; isplitr; · ipureintro; exact hg0
    iexact H0
  isplitl [H1]
  · iexists _; isplitr; · ipureintro; exact hg1
    iexact H1
  iexists _; isplitr; · ipureintro; exact hg2
  iexact H2

omit [FloatOps F] in
/-- A buffer held whole is its memref held; and back. -/
theorem heldP_whole (c : Dev nD) (b : Ref sig .tc) (f : Buf (Elt F) ((c : Thread nD τ).loc b)) :
    (((c : Thread nD τ).loc b) ↦{fullShare} f : sProp 𝕄) ⊢ heldP c (Memref.whole b) f := by
  exact ent_of_eq (congrArg (fun S => (_ ↦[S]{fullShare} f : sProp 𝕄)) (View.set_whole b).symm)
omit [FloatOps F] in
theorem heldP_whole' (c : Dev nD) (b : Ref sig .tc) (f : Buf (Elt F) ((c : Thread nD τ).loc b)) :
    heldP c (Memref.whole b) f ⊢ (((c : Thread nD τ).loc b) ↦{fullShare} f : sProp 𝕄) := by
  exact ent_of_eq (congrArg (fun S => (_ ↦[S]{fullShare} f : sProp 𝕄)) (View.set_whole b))

/-! ## The run -/

/-- The kernel's own semaphores: slot `a` of stream `s`. -/
def osem (p : Fin 2 × Fin 2) : SemLoc sig := SemLoc.dma (csm p.2 p.1).sem
theorem ownSemFacts : Pipeline.OwnSemFacts spec0 osem := by decide +kernel
theorem ownSems0_eq (c : Dev nD) : (Pipeline.ownSems0 (Ix := Unit) (Name := ℕ) (U := UU nD τ) (Lvl := ℕ) (Val := Elt F) (τ := τ) osem c : sProp 𝕄)
    = iprop((cellP c 0 0 ∗ cellP c 1 0) ∗ (cellP c 0 1 ∗ cellP c 1 1)) := by
  unfold Pipeline.ownSems0; rw [BI.bigSep_univ_prod, Ring.bigSep_fin2, Ring.bigSep_fin2, Ring.bigSep_fin2]; rfl

/-- The launch's ghost state. -/
def u₀ : UU nD τ := (initOf (Pipeline.cells cfgs cellOf_inj) (Pipeline.launchToks cfgs cellOf_inj), 1)

/-- What goes into the region's invariant from outside it: the result's array and the kernel's semaphores. -/
def intoΦ (c : Dev nD) : sProp 𝕄 := iprop((((c : Thread nD τ).loc main_v14) ↦{fullShare} V m c main_v14) ∗ Pipeline.ownSems0 osem c)
/-- What comes out: the result's array, written. -/
def outOfΦ (c : Dev nD) : sProp 𝕄 := iprop(∃ g : Buf (Elt F) ((c : Thread nD τ).loc main_v14), ⌜Written c (msOf m c) (blksOf m c) g⌝ ∗ (((c : Thread nD τ).loc main_v14) ↦{fullShare} g))
/-- What stays aside: the first argument. -/
def asideΦ (c : Dev nD) : sProp 𝕄 := (((c : Thread nD τ).loc main_arg0) ↦{fullShare} V m c main_arg0)

/-- What the last memory holds on core `c`, apart from the windows' arrays. -/
def QY (c : Dev nD) (s : MemSt nD τ sig (Elt F)) : Prop :=
  s.mem ((c : Thread nD τ).loc main_arg0) = m ((c : Thread nD τ).loc main_arg0)
    ∧ Written c (msOf m c) (blksOf m c) (s.mem ((c : Thread nD τ).loc main_v14))

/-- What the run ends in, core by core. -/
def Post (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ Written c (msOf m c) (blksOf m c) (r.2.mem ((c : Thread nD τ).loc main_v14))

theorem inv_first (c : Dev nD) :
    iprop(intoΦ m c ∗ Pipeline.scopedRest (Ix := Unit) (Name := ℕ) (U := UU nD τ) (Lvl := ℕ) (Val := Elt F) spec0 c) ⊢ Inv c (msOf m c) (blksOf m c) 0 := by
  rw [scopedRest0_eq]
  unfold intoΦ Inv scrR ringR
  rw [ownSems0_eq, show 0 - 9 = 0 from rfl, Ring.AtBΦ_lt _ _ _ _ _ 0 (by omega), Ring.AtB_zero]
  unfold Ring.AtB₀
  rw [Ring.bigSep_fin2]
  unfold freeR
  iintro ⟨⟨Ho, ⟨C00, C10⟩, C01, C11⟩, ⟨%fS, HS⟩, ⟨%fI, HI⟩, ⟨%fP, HP⟩, ⟨%fW, HW⟩, ⟨%fU, HU⟩, Hb⟩
  ihave Ha := (out_split c _) $$ Ho
  ihave Ht := (tile_split c) $$ Hb
  icases Ht with ⟨⟨T00, T10⟩, T01, T11⟩
  isplitl [Ha C00 C10 C01 C11 T00 T10 T01 T11]
  · isplitl [Ha]; · iexact Ha
    isplitl [C00 C10 T00 T10]
    · isplitl [C00]; · iexact C00
      isplitl [C10]; · iexact C10
      isplitl [T00]; · iexact T00
      iexact T10
    · isplitl [C01]; · iexact C01
      isplitl [C11]; · iexact C11
      isplitl [T01]; · iexact T01
      iexact T11
  isplitl [HS]
  · iexists fS; isplitl [HS]
    · iapply (heldP_whole c cc0_scratch0 fS); iexact HS
    ipureintro; exact sigOK_zero _ _
  isplitl [HI]
  · iexists fI; isplitl [HI]
    · iapply (heldP_whole c cc0_scratch1 fI); iexact HI
    ipureintro; intro h; omega
  isplitl [HP]
  · iexists fP; isplitl [HP]
    · iapply (heldP_whole c cc0_scratch2 fP); iexact HP
    ipureintro; intro h; omega
  isplitl [HW]
  · iexists fW; isplitl [HW]
    · iapply (heldP_whole c cc0_scratch3 fW); iexact HW
    ipureintro; intro h; omega
  iexists fU
  iapply (heldP_whole c cc0_scratch4 fU); iexact HU

theorem inv_last (c : Dev nD) :
    Inv c (msOf m c) (blksOf m c) 17 ⊢ iprop(outOfΦ m c ∗ Pipeline.ownSems0 osem c
      ∗ Pipeline.scopedRest (Ix := Unit) (Name := ℕ) (U := UU nD τ) (Lvl := ℕ) (Val := Elt F) spec0 c) := by
  rw [scopedRest0_eq, ownSems0_eq]
  unfold outOfΦ Inv scrR ringR
  rw [show 17 - 9 = 8 from rfl, Ring.AtBΦ_end _ _ _ _ _ 8 rfl]
  unfold Ring.AtBEnd
  rw [Ring.bigSep_fin2 (freeR c)]
  unfold freeR
  iintro ⟨⟨Hb, ⟨C00, C10, T00, T10⟩, C01, C11, T01, T11⟩, ⟨%fS, HS, -⟩, ⟨%fI, HI, -⟩, ⟨%fP, HP, -⟩, ⟨%fW, HW, -⟩, ⟨%fU, HU⟩⟩
  isplitl [Hb]
  · iapply (out_join c _ _); iexact Hb
  isplitl [C00 C10 C01 C11]
  · isplitl [C00 C10]
    · isplitl [C00]; · iexact C00
      iexact C10
    · isplitl [C01]; · iexact C01
      iexact C11
  isplitl [HS]
  · iexists fS; iapply (heldP_whole' c cc0_scratch0 fS); iexact HS
  isplitl [HI]
  · iexists fI; iapply (heldP_whole' c cc0_scratch1 fI); iexact HI
  isplitl [HP]
  · iexists fP; iapply (heldP_whole' c cc0_scratch2 fP); iexact HP
  isplitl [HW]
  · iexists fW; iapply (heldP_whole' c cc0_scratch3 fW); iexact HW
  isplitl [HU]
  · iexists fU; iapply (heldP_whole' c cc0_scratch4 fU); iexact HU
  iapply (tile_join c)
  isplitl [T00 T10]
  · isplitl [T00]; · iexact T00
    iexact T10
  · isplitl [T01]; · iexact T01
    iexact T11

theorem hmainUU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- For any float values, from any memory with zero counters: every weakly fair execution ends, with the arguments
    unchanged, every block of the result at what the kernel writes there, and every semaphore's counter at zero. -/
theorem run_main : θ_run defs (onTc (τ := τ) (main (F := F))) (s₀' m ρ) (fun r => Post m r ∧ r.2.sem = fun _ => 0) :=
  Pipeline.θ_run_region_pf_quiescent (fun p => (cfgs p).toPCfg) (fun p => (cfgs p).toPCfg_adm) (dats m) () cellOf_inj (0 : Fin 1) winFacts₀0 ownSemFacts (Pipeline.PreFacts.none _) EP defs₀ 𝒱₀ m ρ main
    (hbody := fun c => (body_obligation m c).loose) (hne := block_pos0) (harr := arr_whole0) (hstage := stage_whole0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainUU m)
    (hsplit := fun c => (dats m 0 c).arrays_split_shared launch₀0.sharedIn launch₀0.arr_whole (fun _ _ => rfl) (V m c) _ fun w => datA m c w)
    (hpf := fun _ k => k.elim0)
    (X := intoΦ m) (Y := outOfΦ m) (Z := asideΦ m)
    (hX := fun c => by
      rw [Pipeline.unscopedRestP_none, unscopedRest0_eq]
      unfold intoΦ asideΦ
      iintro ⟨⟨H0, -, -, -, -, -, -, -, -, -, -, -, -, -, -, -, -, -, Ho⟩, HS, -, -, -⟩; imodintro
      isplitl [Ho HS]
      · isplitl [Ho]; · iexact Ho
        iexact HS
      iexact H0)
    (hin := fun c => (show _ ⊢ iprop(intoΦ m c ∗ Pipeline.scopedRest spec0 c) from by iintro ⟨HX, -, HR⟩; isplitl [HX] <;> iassumption).trans (inv_first m c))
    (hout := fun c => inv_last m c)
    (QY := QY m)
    (hY := fun c s' => by
      unfold outOfΦ asideΦ
      iintro ⟨⟨%g, %hg, Ho⟩, H0, HSI⟩
      icombine HSI Ho gives %ho
      icombine HSI H0 gives %h0
      imodintro
      isplitr
      · ipureintro
        exact ⟨(Buf.eq_of_forall_mem_univ h0).trans (V_main_arg0 m c), by rw [Buf.eq_of_forall_mem_univ ho]; exact hg⟩
      iexact HSI)
    (hQ := fun s h hz => ⟨fun c => ⟨(h c).2.2.1, ((h c).1 2).trans (((dats m 0 c).arrAt_in 2 rfl _).trans ((datA m c 2).trans (V_main_arg1 m c))), (h c).2.2.2⟩, hz⟩)

end Cert.Proof

end
-- ==== Proof.RefRun.lean ====
/-
  The run of the reference: it ends at the fold of its operations, with the arguments unchanged.
-/
module

public import proofs.«01_k».proof.Proof.Gen.ReferenceIdeal.Run
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- Stretches none of whose operations write `b` leave it. -/
theorem afterL_keep (b : DevRef τ sig) : ∀ (l : List (List (HloOp τ sig (Elt F)))) (V : Valuation τ sig (Elt F)),
    (∀ ops ∈ l, ∀ V', after ops V' b = V' b) → afterL l V b = V b
  | [], V, _ => rfl
  | ops :: l, V, h => by
      rw [afterL_cons, afterL_keep b l _ fun o ho => h o (List.mem_cons_of_mem _ ho)]
      exact h ops (List.mem_cons_self ..) V

theorem hostOps0_7_writes' : (hostOps0_7 : List (HloOp τ sig (Elt F))).Forall fun op => op.writes ⊆ (([main_v60, main_v61, main_v62, main_v63, main_v64, main_v65] : List (Ref sig .tc)).map (Proc.devRef (τ := τ) .tc)).toFinset :=
  StableHlo.forall_writes_sub_of_map rfl

/-- No stretch before the loop writes `b`, if it is none of the buffers they write. -/
theorem pre_keep (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) (V : Valuation τ sig (Elt F)) :
    afterL preI V (Proc.devRef .tc b) = V (Proc.devRef .tc b) := by
  simp only [afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- The loop leaves a buffer that neither its condition nor its body writes. -/
theorem trips_keep (b : Ref sig .tc) (hc : b ∉ condOps_W) (hb : b ∉ while0Ops0_W) (c : Dev nD) :
    ∀ k, atK m k c (Proc.devRef .tc b) = entryContents preI m c (Proc.devRef .tc b)
  | 0 => rfl
  | k + 1 => by
      unfold atK
      rw [atTrip_succ, afterL_cons, afterL_nil, after_of_writes_sub _ _ while0Ops0_writes hb, after_of_writes_sub _ _ condOps_writes hc]
      exact trips_keep b hc hb c k

theorem final_keep (b : Ref sig .tc) (h7 : b ∉ ([main_v60, main_v61, main_v62, main_v63, main_v64, main_v65] : List (Ref sig .tc)))
    (hc : b ∉ condOps_W) (c : Dev nD) :
    finalContents condOps preI bodyI postI 300 m c (Proc.devRef .tc b) = atK m 300 c (Proc.devRef .tc b) := by
  unfold finalContents
  rw [afterL_cons, afterL_nil, after_of_writes_sub _ _ hostOps0_7_writes' h7, after_of_writes_sub _ _ condOps_writes hc]

theorem final_arg0 (c : Dev nD) : finalContents condOps preI bodyI postI 300 m c (Proc.devRef .tc main_arg0) = m ((c.tc : Thread nD τ).loc main_arg0) := by
  rw [final_keep m main_arg0 (by decide) (by decide) c, trips_keep m main_arg0 (by decide) (by decide +kernel) c]
  exact pre_keep main_arg0 (by decide) (by decide) (by decide) (by decide) (by decide) (by decide) (by decide) _
theorem final_arg1 (c : Dev nD) : finalContents condOps preI bodyI postI 300 m c (Proc.devRef .tc main_arg1) = m ((c.tc : Thread nD τ).loc main_arg1) := by
  rw [final_keep m main_arg1 (by decide) (by decide) c, trips_keep m main_arg1 (by decide) (by decide +kernel) c]
  exact pre_keep main_arg1 (by decide) (by decide) (by decide) (by decide) (by decide) (by decide) (by decide) _

/-- Every weakly fair execution of the reference ends, with its arguments unchanged, its result at the fold, and every
    counter at zero (it declares no semaphore). -/
theorem run_main : θ_run (defs (F := F)) (onTc (τ := τ) (main (F := F))) ⟨m, fun _ => 0, ρ⟩ (fun r =>
    (∀ c : Dev nD, r.2.mem ((c.tc : Thread nD τ).loc main_v65) = finalContents condOps preI bodyI postI 300 m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨h c main_v65 rfl, (h c main_arg0 rfl).trans (final_arg0 m c), (h c main_arg1 rfl).trans (final_arg1 m c)⟩,
    sem_eq_zero_of_no_sems rfl _⟩) (run_fold m ρ)

end Cert.Proof.Ref

end
-- ==== Proof.Frames.lean ====
/-
  The frames: each of the three programs ends, with its arguments unchanged and every semaphore counter at zero.
-/
module

public import proofs.«01_k».proof.Defs
public import proofs.«01_k».proof.Proof.Launch
public import proofs.«01_k».proof.Proof.RefRun
public import proofs.«01_k».proof.Proof.Gen.Kernel

@[expose] public section

set_option maxRecDepth 16384

noncomputable section

namespace Cert.Proof

open Idealize.ShloMosaic Idealize.SL.Sem

/-- The kernel over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m ρ)

/-- The two printed kernels run the same body. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So their tables of bodies are the same. -/
theorem tables_eq : Cert.Kernel.defs (F := Bits) = Cert.KernelIdeal.defs (F := Bits) :=
  congrArg (fun d => Pipeline.defs Cert.KernelIdeal.pcfgs d) bodies_eq

/-- The kernel over words. Its text is that of the kernel over the extended reals, so the one run serves both. -/
theorem frame_kernel : Cert.quiescent_Kernel := fun m ρ _ => by
  rw [tables_eq]
  exact frame_any (F := Bits) m ρ

/-- The kernel over the extended reals. -/
theorem frame_kernelIdeal : Cert.quiescent_KernelIdeal := fun m ρ _ => frame_any (F := Ideal) m ρ

/-- The reference over the extended reals. -/
theorem frame_referenceIdeal : Cert.quiescent_ReferenceIdeal := fun m ρ _ =>
  (θ_run Cert.ReferenceIdeal.defs _ _).mono (fun _ h => ⟨fun c => ⟨(h.1 c).2.1, (h.1 c).2.2⟩, h.2⟩) (Ref.run_main (F := Ideal) m ρ)

end Cert.Proof

end
-- ==== Proof.Order.lean ====
/-
  Descending order with ties by index, over any 300 extended reals: the position a row sorts to is the number of rows
  ahead of it, and a stable sort by "greater" lists the rows so.
-/
module

public import Idealize.ShloMosaic.Lib.SortFacts
public import Idealize.ShloMosaic.PureOps.Ideal

@[expose] public section

noncomputable section

namespace Cert.Proof

open Idealize.ShloMosaic

/-- Row `i` comes before row `j`: it is greater, or equal and earlier. -/
def ahead (s : Fin 300 → EReal) (i j : Fin 300) : Prop := s j < s i ∨ (s i = s j ∧ i < j)

variable (s : Fin 300 → EReal)

theorem ahead_irrefl (i : Fin 300) : ¬ ahead s i i := fun h => h.elim (lt_irrefl _) fun h => lt_irrefl _ h.2

theorem ahead_asymm {i j : Fin 300} (h : ahead s i j) : ¬ ahead s j i := by
  rintro (h' | ⟨e', h'⟩) <;> rcases h with h | ⟨e, h⟩
  · exact lt_asymm h h'
  · exact absurd h' (e ▸ lt_irrefl _)
  · exact absurd h (e' ▸ lt_irrefl _)
  · exact lt_asymm h h'

theorem ahead_total {i j : Fin 300} (h : i ≠ j) : ahead s i j ∨ ahead s j i := by
  rcases lt_trichotomy (s i) (s j) with h' | h' | h'
  · exact .inr (.inl h')
  · rcases lt_or_gt_of_ne h with h | h
    · exact .inl (.inr ⟨h', h⟩)
    · exact .inr (.inr ⟨h'.symm, h⟩)
  · exact .inl (.inl h')

theorem ahead_trans {i j k : Fin 300} (h : ahead s i j) (h' : ahead s j k) : ahead s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem not_ahead_trans {i j k : Fin 300} (h : ¬ ahead s i j) (h' : ¬ ahead s j k) : ¬ ahead s i k := by
  intro hik
  by_cases e : i = j
  · exact h' (e ▸ hik)
  by_cases e' : j = k
  · exact h (e' ▸ hik)
  · exact ahead_asymm s hik (ahead_trans s ((ahead_total s e').resolve_left h') ((ahead_total s e).resolve_left h))

open Classical in
/-- The `k`-th row in descending order, ties by index. -/
def ord : Fin 300 → Fin 300 := sortedFrom fun i j => decide (ahead s i j)

theorem ord_injective : Function.Injective (ord s) := sortedFrom_injective _
theorem ord_surjective : Function.Surjective (ord s) := sortedFrom_surjective _

/-- The rows listed are in order. -/
theorem ahead_ord_of_lt {i j : Fin 300} (h : i < j) : ahead s (ord s i) (ord s j) := by
  classical
  have hn : ¬ ahead s (ord s j) (ord s i) := by
    have := sortedFrom_noInversion (fun i j => decide (ahead s i j)) (fun i j => decide (ahead s i j))
      (fun a b hab => decide_eq_false (ahead_asymm s (of_decide_eq_true hab))) (fun a b hab => hab)
      (fun a b c hab hbc => decide_eq_false (not_ahead_trans s (of_decide_eq_false hab) (of_decide_eq_false hbc))) i j h
    intro hh
    have e : decide (ahead s (ord s j) (ord s i)) = false := by
      unfold ord
      convert this
    exact of_decide_eq_false e hh
  exact (ahead_total s fun e => absurd (ord_injective s e) h.ne).resolve_right hn

theorem ahead_ord_iff {i j : Fin 300} : ahead s (ord s i) (ord s j) ↔ i < j := by
  refine ⟨fun h => ?_, ahead_ord_of_lt s⟩
  by_contra hn
  rcases eq_or_lt_of_le (not_lt.mp hn) with e | e
  · subst e; exact ahead_irrefl s _ h
  · exact ahead_asymm s h (ahead_ord_of_lt s e)

open Classical in
/-- How many rows come before row `j`. -/
def rank (j : Fin 300) : ℕ := (Finset.univ.filter fun i => ahead s i j).card

/-- The `k`-th row has `k` rows before it. -/
theorem rank_ord (k : Fin 300) : rank s (ord s k) = k.val := by
  classical
  unfold rank
  have : (Finset.univ.filter fun i => ahead s i (ord s k)) = (Finset.univ.filter fun i : Fin 300 => i < k).map ⟨ord s, ord_injective s⟩ := by
    ext i
    obtain ⟨i, rfl⟩ := ord_surjective s i
    simp only [Finset.mem_filter, Finset.mem_univ, true_and, Finset.mem_map, Function.Embedding.coeFn_mk, ahead_ord_iff]
    exact ⟨fun h => ⟨i, h, rfl⟩, fun ⟨j, h, e⟩ => ord_injective s e ▸ h⟩
  rw [this, Finset.card_map, show (Finset.univ.filter fun i : Fin 300 => i < k) = Finset.Iio k from Finset.ext fun i => by simp, Fin.card_Iio]

/-- A row has `k` rows before it exactly when it is the `k`-th. -/
theorem rank_eq_iff (k j : Fin 300) : k.val = rank s j ↔ j = ord s k := by
  obtain ⟨j, rfl⟩ := ord_surjective s j
  rw [rank_ord]
  exact ⟨fun h => by rw [Fin.ext h], fun h => congrArg Fin.val (ord_injective s h).symm⟩

/-- Two orders that agree on pairs taken in list order give the same stable sort of an increasing list. -/
theorem stableSort_of_increasing {n : ℕ} (R R' : Fin n → Fin n → Bool) (h : ∀ a b, a < b → R b a = R' b a) :
    ∀ l : List (Fin n), l.Pairwise (· < ·) → stableSort R l = stableSort R' l
  | [], _ => rfl
  | a :: l, hl => by
      unfold stableSort
      rw [stableSort_of_increasing R R' h l (List.pairwise_cons.mp hl).2]
      exact insertBefore_congr R R' a _ fun b hb => h a b ((List.pairwise_cons.mp hl).1 b ((perm_stableSort R' l).mem_iff.mp hb))

/-- A sort is what it lists. -/
theorem sortedFrom_eq {n : ℕ} {R R' : Fin n → Fin n → Bool} (h : sortPositions n R = sortPositions n R') : sortedFrom R = sortedFrom R' := by
  funext k
  unfold sortedFrom
  rw [List.get_of_eq h]
  rfl

/-- The stable sort by "greater" lists the rows in descending order, ties by index. -/
theorem sortedFrom_greater (R : Fin 300 → Fin 300 → Bool) (hR : ∀ i j, R i j = true ↔ s j < s i) : sortedFrom R = ord s := by
  classical
  have hs : sortPositions 300 R = sortPositions 300 fun i j => decide (ahead s i j) := by
    refine stableSort_of_increasing _ _ (fun a b hab => ?_) _ ?_
    · rw [Bool.eq_iff_iff, hR, decide_eq_true_iff]
      exact ⟨.inl, fun h => h.resolve_right fun h => lt_asymm h.2 hab⟩
    · exact List.sortedLT_finRange 300 |>.pairwise
  exact sortedFrom_eq hs

end Cert.Proof

end
-- ==== Proof.Spec.lean ====
/-
  What both programs compute, over plain functions: `s` holds the scores, `x` the masks' logits.
-/
module

public import proofs.«01_k».proof.Proof.Order

@[expose] public section

noncomputable section

namespace Cert.Proof

open Idealize.ShloMosaic

/-- Whether a pixel belongs to the mask: its logit is positive. -/
def lit (v : EReal) : EReal := if 0 < v then 1 else 0

/-- How many pixels the masks of rows `i` and `j` share. -/
def shared (x : Fin 300 → Fin 128 → Fin 224 → EReal) (i j : Fin 300) : EReal :=
  ∑ r : Fin 128, ∑ c : Fin 224, lit (x i r c) * lit (x j r c)

/-- Intersection over union. -/
def overlap (x : Fin 300 → Fin 128 → Fin 224 → EReal) (i j : Fin 300) : EReal :=
  Ideal.div (shared x i j) (max (shared x i i + shared x j j - shared x i j) 1)

/-- The suppression threshold and the selection threshold, as the programs write them. -/
def supThr : EReal := Ideal.ofBits .f32 0x3F19999A#32
def selThr : EReal := Ideal.ofBits .f32 0x3DCCCCCD#32

/-- One round of the suppression: row `i`, if kept, removes the later rows that overlap it too much. -/
def keepStep (M : Fin 300 → Fin 300 → EReal) (i : Fin 300) (k : Fin 300 → EReal) (l : Fin 300) : EReal :=
  k l * (1 - if (supThr < M i l ∧ i < l) ∧ 0 < k i then 1 else 0)

/-- The rows kept after `n` rounds: 1 or 0 each. -/
def kept (M : Fin 300 → Fin 300 → EReal) : ℕ → Fin 300 → EReal
  | 0 => fun _ => 1
  | n + 1 => if h : n < 300 then keepStep M ⟨n, h⟩ (kept M n) else kept M n

theorem kept_succ (M : Fin 300 → Fin 300 → EReal) (n : Fin 300) : kept M (n.val + 1) = keepStep M n (kept M n.val) := by
  rw [kept, dif_pos n.isLt]

/-- If no row overlaps a later one too much, every row is kept. -/
theorem kept_of_none (M : Fin 300 → Fin 300 → EReal) (h : ∀ i j, i < j → ¬ supThr < M i j) : ∀ n, kept M n = fun _ => 1
  | 0 => rfl
  | n + 1 => by
      rw [kept]
      split
      · rw [kept_of_none M h n]
        funext l
        unfold keepStep
        rw [if_neg fun hh => h _ _ hh.1.2 hh.1.1]
        simp
      · exact kept_of_none M h n

/-- Which rows are selected: those above the threshold, or the first where none is. -/
def valid (s : Fin 300 → EReal) (i : Fin 300) : EReal :=
  if selThr < s i ∨ (i = 0 ∧ ∀ j, ¬ selThr < s j) then 1 else 0

/-- The rows in descending order of score, each row's mask times its score, or zero where suppressed or not selected. -/
def result (s : Fin 300 → EReal) (x : Fin 300 → Fin 128 → Fin 224 → EReal) (i : Fin 300) (r : Fin 128) (c : Fin 224) : EReal :=
  Ideal.logistic (x (ord s i) r c)
    * (kept (fun a b => overlap x (ord s a) (ord s b)) 300 i * valid (fun j => s (ord s j)) i * s (ord s i))

theorem lit_mul_self (v : EReal) : lit v * lit v = lit v := by
  unfold lit; split <;> simp

/-- A mask shares its own pixels with itself. -/
theorem shared_self (x : Fin 300 → Fin 128 → Fin 224 → EReal) (i : Fin 300) :
    shared x i i = ∑ r : Fin 128, ∑ c : Fin 224, lit (x i r c) :=
  Finset.sum_congr rfl fun r _ => Finset.sum_congr rfl fun c _ => lit_mul_self _

/-- The logistic function is above a half exactly at the positive numbers. -/
theorem half_lt_logistic (v : EReal) : Ideal.ofBits .f32 0x3F000000#32 < Ideal.logistic v ↔ 0 < v := by
  have hh : Ideal.ofBits .f32 0x3F000000#32 = ((1 / 2 : ℝ) : EReal) := by
    simp [Ideal.ofBits, Ideal.ieee, -EReal.coe_mul]; norm_num
  rw [hh]
  induction v with
  | bot => simp
  | top => simp; norm_cast; norm_num
  | coe v =>
      rw [Ideal.logistic_coe, EReal.coe_lt_coe_iff, EReal.coe_pos]
      have hp : 0 < 1 + Real.exp (-v) := by positivity
      rw [show (1 / 2 : ℝ) = 2⁻¹ by norm_num, inv_lt_inv₀ (by norm_num) hp]
      constructor
      · intro h
        have : Real.exp (-v) < 1 := by linarith
        rw [Real.exp_lt_one_iff] at this
        linarith
      · intro h
        have : Real.exp (-v) < 1 := Real.exp_lt_one_iff.mpr (by linarith)
        linarith

/-- The scores' rank counted as the kernel counts it. -/
theorem sum_rank (s : Fin 300 → EReal) (j : Fin 300) :
    ∑ i, ((if s j < s i then (1 : EReal) else 0) + if s i = s j ∧ i < j then 1 else 0) = ((rank s j : ℝ) : EReal) := by
  classical
  have h : ∀ i, ((if s j < s i then (1 : EReal) else 0) + if s i = s j ∧ i < j then 1 else 0) = (((if ahead s i j then 1 else 0 : ℝ)) : EReal) := by
    intro i
    unfold ahead
    by_cases h1 : s j < s i
    · have : ¬ (s i = s j ∧ i < j) := fun h => absurd h1 (h.1 ▸ lt_irrefl _)
      simp [h1, this]
    · by_cases h2 : s i = s j ∧ i < j
      · simp [h1, h2]
      · simp [h1, h2]
  rw [Finset.sum_congr rfl fun i _ => h i]
  unfold rank
  rw [← Finset.sum_boole]
  push_cast
  rfl

end Cert.Proof

end
-- ==== Proof.Scalars.lean ====
/-
  Comparison bits and the numbers made of them, at one element.
-/
module

public import Idealize.ShloMosaic.Lib.Pointwise

@[expose] public section

noncomputable section

namespace Cert.Proof

open Idealize.ShloMosaic

/-- A bit, widened and made a float, is 1 or 0. -/
theorem sitofp_bit (p : Prop) [Decidable p] :
    FloatOps.sitofp (F := Ideal) .f32 (BitVec.setWidth 32 (BitVec.ofBool (decide p))) = if p then (1 : EReal) else 0 := by
  by_cases h : p
  · simp only [h, if_true, decide_true]
    show (((BitVec.setWidth 32 (BitVec.ofBool true)).toInt : ℝ) : EReal) = 1
    rw [show (BitVec.setWidth 32 (BitVec.ofBool true)).toInt = 1 from by decide]
    simp
  · simp only [h, if_false, decide_false]
    show (((BitVec.setWidth 32 (BitVec.ofBool false)).toInt : ℝ) : EReal) = 0
    rw [show (BitVec.setWidth 32 (BitVec.ofBool false)).toInt = 0 from by decide]
    simp

/-- The same of one bit made a float as an unsigned number. -/
theorem uitofp_bit (p : Prop) [Decidable p] :
    FloatOps.uitofp (F := Ideal) .f32 (BitVec.ofBool (decide p)) = if p then (1 : EReal) else 0 := by
  by_cases h : p
  · simp only [h, if_true, decide_true]
    show (((BitVec.ofBool true).toNat : ℝ) : EReal) = 1
    simp
  · simp only [h, if_false, decide_false]
    show (((BitVec.ofBool false).toNat : ℝ) : EReal) = 0
    simp

theorem word_toInt (i : ℕ) (h : i < 1000) : (BitVec.ofNat 32 i).toInt = i := by
  have : i % 2 ^ 32 = i := Nat.mod_eq_of_lt (by omega)
  rw [BitVec.toInt_eq_toNat_cond, BitVec.toNat_ofNat, this, if_pos (by omega)]

/-- A small number's word, made a float, is the number. -/
theorem sitofp_word (i : ℕ) (h : i < 1000) : FloatOps.sitofp (F := Ideal) .f32 (BitVec.ofNat 32 i) = ((i : ℝ) : EReal) := by
  show (((BitVec.ofNat 32 i).toInt : ℝ) : EReal) = _
  rw [word_toInt i h]; simp

theorem cmpi_eq_word (i j : ℕ) (hi : i < 1000) (hj : j < 1000) :
    IntOp.cmpi .eq (BitVec.ofNat 32 i) (BitVec.ofNat 32 j) = BitVec.ofBool (decide (i = j)) := by
  unfold IntOp.cmpi
  congr 1
  rw [Bool.eq_iff_iff]
  simp only [beq_iff_eq, decide_eq_true_eq]
  constructor
  · intro h
    have := congrArg BitVec.toInt h
    rw [word_toInt i hi, word_toInt j hj] at this
    omega
  · rintro rfl; rfl

theorem cmpi_slt_word (i j : ℕ) (hi : i < 1000) (hj : j < 1000) :
    IntOp.cmpi .slt (BitVec.ofNat 32 i) (BitVec.ofNat 32 j) = BitVec.ofBool (decide (i < j)) := by
  unfold IntOp.cmpi
  congr 1
  rw [Bool.eq_iff_iff]
  simp only [BitVec.slt, word_toInt i hi, word_toInt j hj, decide_eq_true_eq, Nat.cast_lt]

theorem cmpi_sgt_word (i j : ℕ) (hi : i < 1000) (hj : j < 1000) :
    IntOp.cmpi .sgt (BitVec.ofNat 32 i) (BitVec.ofNat 32 j) = BitVec.ofBool (decide (j < i)) := by
  unfold IntOp.cmpi
  congr 1
  rw [Bool.eq_iff_iff]
  simp only [BitVec.slt, word_toInt i hi, word_toInt j hj, decide_eq_true_eq, Nat.cast_lt]

theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ori_bits (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem select_bit {α : Type} (p : Prop) [Decidable p] (a b : α) :
    Scalar.select (BitVec.ofBool (decide p)) a b = if p then a else b := by
  by_cases hp : p <;> simp [hp, Scalar.select]

/-- The product of two indicators is the indicator of both. -/
theorem ite_mul_ite (p q : Prop) [Decidable p] [Decidable q] :
    (if p then (1 : EReal) else 0) * (if q then 1 else 0) = if p ∧ q then 1 else 0 := by
  by_cases hp : p <;> by_cases hq : q <;> simp [hp, hq]

/-- A sum of indicators is zero exactly when none holds. -/
theorem sum_ite_eq_zero {ι : Type} [Fintype ι] (p : ι → Prop) [DecidablePred p] :
    (∑ i, if p i then (1 : EReal) else 0) = 0 ↔ ∀ i, ¬ p i := by
  rw [Finset.sum_eq_zero_iff_of_nonneg fun i _ => by split <;> simp]
  simp

end Cert.Proof

end
-- ==== Proof.KValue.lean ====
/-
  The kernel's steps over the extended reals, at one element.
-/
module

public import proofs.«01_k».proof.Proof.Steps
public import proofs.«01_k».proof.Proof.Spec
public import proofs.«01_k».proof.Proof.Scalars

@[expose] public section

set_option maxRecDepth 16384

noncomputable section

namespace Cert.Proof

open Cert.KernelIdeal Cert.KernelIdeal.Gen
open Idealize.ShloMosaic

/-- A block's logistic values. -/
theorem sig_apply (b : FVec Ideal S300x8x224 .f32) (i : Fin 300) (r : Fin 8) (c : Fin 224) :
    (k0_pay3 (F := Ideal) b) (ix4 0 i r c) = Ideal.logistic (b (ix3 i r c)) := by
  pointwise [k0_pay3]

/-- The identity matrix. -/
theorem eye_apply (i j : Fin 300) : (k0_pay8 (F := Ideal)) (ix2 i j) = if i = j then (1 : EReal) else 0 := by
  pointwise [k0_pay8]
  rw [cmpi_eq_word _ _ (by omega) (by omega), sitofp_bit]
  simp only [Fin.ext_iff]

/-- The pixels two rows share in one block. -/
def sharedIn (b : FVec Ideal S300x8x224 .f32) (i j : Fin 300) : EReal :=
  ∑ r : Fin 8, ∑ c : Fin 224, lit (b (ix3 i r c)) * lit (b (ix3 j r c))

/-- A sum over a block's 1792 lanes is one over its rows and columns. -/
theorem sum_lanes (f : Fin 8 → Fin 224 → EReal) :
    ∑ k : Fin 1792, f ⟨k.val / 224, by omega⟩ ⟨k.val % 224, by omega⟩ = ∑ r : Fin 8, ∑ c : Fin 224, f r c := by
  rw [← Fintype.sum_prod_type']
  refine Fintype.sum_equiv (finProdFinEquiv (m := 8) (n := 224)).symm _ _ fun k => ?_
  rfl

/-- What one point adds to the shared counts: two blocks' worth. -/
theorem part_apply (b0 b1 : FVec Ideal S300x8x224 .f32) (i j : Fin 300) :
    (k0_pay5 (F := Ideal) b0 b1) (ix2 i j) = sharedIn b0 i j + sharedIn b1 i j := by
  pointwise [k0_pay5]
  simp only [sitofp_bit]
  unfold sharedIn
  rw [← sum_lanes fun r c => lit (b0 (ix3 i r c)) * lit (b0 (ix3 j r c)), ← sum_lanes fun r c => lit (b1 (ix3 i r c)) * lit (b1 (ix3 j r c))]
  rfl

theorem first_apply (b0 b1 : FVec Ideal S300x8x224 .f32) (i j : Fin 300) :
    (k0_pay6 (F := Ideal) b0 b1) (ix2 i j) = sharedIn b0 i j + sharedIn b1 i j := by
  rw [← part_apply]
  pointwise [k0_pay6]

theorem add_apply (v w : FVec Ideal S300x300 .f32) (i j : Fin 300) :
    (k0_pay1 (F := Ideal) v w) (ix2 i j) = w (ix2 i j) + v (ix2 i j) := by
  pointwise [k0_pay1]

/-- After `n + 1` points the accumulator holds the shared counts of the blocks met. -/
theorem interAcc_apply (B : Fin 2 → ℕ → FVec Ideal S300x8x224 .f32) (i j : Fin 300) : ∀ n,
    (interAcc (F := Ideal) B n (ix2 i j) : EReal) = ∑ u ∈ Finset.range (n + 1), (sharedIn (B 0 u) i j + sharedIn (B 1 u) i j)
  | 0 => by
      rw [interAcc, first_apply]; simp
  | n + 1 => by
      rw [interAcc, add_apply, interAcc_apply B i j n, part_apply, Finset.sum_range_succ _ (n + 1)]

variable (ms : FVec Ideal S1x300 .f32)

/-- The scores as a function of the row. -/
def scoreOf (i : Fin 300) : EReal := ms (ix2 0 i)

/-- The permutation matrix: row `k` picks the `k`-th row in descending order. -/
theorem perm_apply (k j : Fin 300) : (k0_pay9 (F := Ideal) ms) (ix2 k j) = if j = ord (scoreOf ms) k then (1 : EReal) else 0 := by
  pointwise [k0_pay9, k0_pay7]
  simp only [eye_apply, ite_mul, one_mul, zero_mul, Finset.sum_ite_eq, Finset.mem_univ, if_true]
  have hslt : ∀ x : Fin 300, IntOp.cmpi .slt (BitVec.ofNat 32 x.val) (BitVec.ofNat 32 j.val) = BitVec.ofBool (decide (x < j)) := fun x =>
    cmpi_slt_word _ _ (by omega) (by omega)
  simp only [hslt, andi_bits, sitofp_bit]
  rw [sitofp_word _ (by omega)]
  have hr := sum_rank (scoreOf ms) j
  unfold scoreOf at hr
  rw [hr]
  have : (((k.val : ℝ) : EReal) = ((rank (fun i => ms (ix2 0 i)) j : ℝ) : EReal)) ↔ j = ord (scoreOf ms) k := by
    rw [← rank_eq_iff, EReal.coe_eq_coe_iff, Nat.cast_inj]
    rfl
  simp only [this]

/-- A product with the permutation matrix picks. -/
theorem perm_sum (k : Fin 300) (v : Fin 300 → EReal) : ∑ j, (k0_pay9 (F := Ideal) ms) (ix2 k j) * v j = v (ord (scoreOf ms) k) := by
  simp only [perm_apply, ite_mul, one_mul, zero_mul, Finset.sum_ite_eq', Finset.mem_univ, if_true]

theorem perm_sum' (k : Fin 300) (v : Fin 300 → EReal) : ∑ j, v j * (k0_pay9 (F := Ideal) ms) (ix2 k j) = v (ord (scoreOf ms) k) := by
  simp only [perm_apply, mul_ite, mul_one, mul_zero, Finset.sum_ite_eq', Finset.mem_univ, if_true]

/-- The overlaps the kernel forms of the accumulated counts. -/
def overlapOf (v : FVec Ideal S300x300 .f32) (i j : Fin 300) : EReal :=
  Ideal.div (v (ix2 i j)) (max (v (ix2 i i) + v (ix2 j j) - v (ix2 i j)) 1)

/-- The sorted overlaps. -/
theorem sortedOverlap_apply (v : FVec Ideal S300x300 .f32) (i j : Fin 300) :
    (k0_pay10 (F := Ideal) ms v) (ix2 i j) = overlapOf v (ord (scoreOf ms) i) (ord (scoreOf ms) j) := by
  pointwise [k0_pay10, k0_pay7]
  simp only [eye_apply, mul_ite, mul_one, mul_zero, Finset.sum_ite_eq, Finset.sum_ite_eq', Finset.mem_univ, if_true]
  rw [perm_sum' ms j, perm_sum ms i]
  rfl

end Cert.Proof

end
-- ==== Proof.KKeep.lean ====
/-
  The kernel's suppression, selection and write-back over the extended reals, at one element.
-/
module

public import proofs.«01_k».proof.Proof.KValue

@[expose] public section

set_option maxRecDepth 16384

noncomputable section

namespace Cert.Proof

open Cert.KernelIdeal Cert.KernelIdeal.Gen
open Idealize.ShloMosaic

/-- A bit made a 32-bit word, then a number, is 1 or 0. -/
theorem extui_bit (p : Prop) [Decidable p] :
    ((((Scalar.extui (BitVec.ofBool (decide p)) : BitVec 32).toInt : ℝ)) : EReal) = if p then 1 else 0 := by
  by_cases h : p
  · simp only [h, if_true, decide_true]
    rw [show (Scalar.extui (BitVec.ofBool true) : BitVec 32).toInt = 1 from by decide]
    simp
  · simp only [h, if_false, decide_false]
    rw [show (Scalar.extui (BitVec.ofBool false) : BitVec 32).toInt = 0 from by decide]
    simp

theorem iv_eq (k : ℕ) : Scf.iv 0#32 1#32 k = BitVec.ofNat 32 k := by
  simp [Scf.iv]

/-- A mask row as a function of the lane. -/
def rowFun (v : FVec Ideal S1x300 .f32) (l : Fin 300) : EReal := v (ix2 0 l)
/-- A square matrix as a function of row and column. -/
def matFun (M : FVec Ideal S300x300 .f32) (i j : Fin 300) : EReal := M (ix2 i j)

/-- One trip is one round of the suppression. -/
theorem trip_apply (M : FVec Ideal S300x300 .f32) (k : Fin 300) (v w : FVec Ideal S1x300 .f32) (hw : ∀ l, w (ix2 0 l) = M (ix2 k l)) (l : Fin 300) :
    (k0_pay14 (F := Ideal) k v w) (ix2 0 l) = keepStep (matFun M) k (rowFun v) l := by
  pointwise [k0_pay14]
  simp only [iv_eq]
  have h1 : IntOp.cmpi .sgt (BitVec.ofNat 32 l.val) (BitVec.ofNat 32 k.val) = BitVec.ofBool (decide (k < l)) := cmpi_sgt_word _ _ (by omega) (by omega)
  have h2 : ∀ x : Fin 300, IntOp.cmpi .eq (BitVec.ofNat 32 x.val) (BitVec.ofNat 32 k.val) = BitVec.ofBool (decide (x = k)) := fun x => by
    rw [cmpi_eq_word _ _ (by omega) (by omega)]
    simp only [Fin.ext_iff]
  simp only [h1, h2, andi_bits, sitofp_bit, extui_bit, mul_ite, mul_one, mul_zero, Finset.sum_ite_eq', Finset.mem_univ, if_true, Finset.univ_unique,
    Finset.sum_const, Finset.card_singleton, one_smul, hw]
  unfold keepStep matFun rowFun supThr
  by_cases ha : Ideal.ofBits .f32 1058642330#32 < M (ix2 k l) ∧ k < l <;> by_cases hb : 0 < v (ix2 0 k) <;> simp [ha, hb]

/-- Row `k` of a matrix, at a lane. -/
theorem rowOf_apply (M : FVec Ideal S300x300 .f32) (k : Fin 300) (l : Fin 300) : rowOf (F := Ideal) M k (ix2 0 l) = M (ix2 k l) := by
  unfold rowOf VecWindow.window
  congr 1
  have e := off2_eq k
  funext a
  apply Fin.ext
  fin_cases a
  · show k0_off2 k 0 + 1 * 0 = k.val
    rw [e]; simp
  · show k0_off2 k 1 + 1 * l.val = l.val
    rw [e]; simp

/-- The mask before trip `n`. -/
theorem keepAt_apply (M M' : FVec Ideal S300x300 .f32) (hM : ∀ i j, M' (ix2 i j) = M (ix2 i j)) : ∀ n, n ≤ 300 →
    rowFun (keepAt (F := Ideal) (rowOf M') k0_pay12 n) = kept (matFun M) n
  | 0, _ => by
      funext l
      show (k0_pay12 (F := Ideal)) (ix2 0 l) = 1
      pointwise [k0_pay12]
  | n + 1, h => by
      have hn : n < 300 := h
      have e := keepAt_succ (F := Ideal) (rowOf M') k0_pay12 ⟨n, hn⟩
      have e' := kept_succ (matFun M) ⟨n, hn⟩
      simp only at e e'
      rw [e, e', ← keepAt_apply M M' hM n hn.le]
      funext l
      exact trip_apply M ⟨n, hn⟩ _ _ (fun l => (rowOf_apply M' ⟨n, hn⟩ l).trans (hM _ _)) l

/-- The suppression threshold is positive. -/
theorem supThr_pos : 0 < supThr := by
  have : supThr = ((10066330 * 2 ^ (-24 : ℤ) : ℝ) : EReal) := by
    unfold supThr
    simp [Ideal.ofBits, Ideal.ieee, -EReal.coe_mul]
  rw [this, EReal.coe_pos]
  positivity

theorem word_ne_zero (p : Prop) [Decidable p] :
    Scalar.cmpi .ne (Scalar.extui (BitVec.ofBool (decide p)) : BitVec 32) 0#32 = 1#1 ↔ p := by
  by_cases h : p
  · simp only [h, decide_true, iff_true]; decide
  · simp only [h, decide_false, iff_false]; decide

theorem negInf : Ideal.ofBits .f32 4286578688#32 = ⊥ := by simp [Ideal.ofBits, Ideal.ieee]

/-- The largest entry above the diagonal is above the threshold exactly when some entry there is. -/
theorem anySup_iff (M : FVec Ideal S300x300 .f32) : anySup (F := Ideal) M ↔ ∃ i j : Fin 300, i < j ∧ supThr < M (ix2 i j) := by
  unfold anySup
  pointwise [k0_pay13]
  have h1 : ∀ x y : Fin 300, IntOp.cmpi .slt (BitVec.ofNat 32 x.val) (BitVec.ofNat 32 y.val) = BitVec.ofBool (decide (x < y)) := fun x y =>
    cmpi_slt_word _ _ (by omega) (by omega)
  rw [word_ne_zero, negInf]
  simp only [h1, select_bit]
  rw [Finset.lt_fold_max]
  constructor
  · rintro (h | ⟨x, _, h⟩)
    · exact absurd h not_lt_bot
    · by_cases hx : x.1 < x.2
      · rw [if_pos hx] at h
        exact ⟨x.1, x.2, hx, h⟩
      · rw [if_neg hx] at h
        exact absurd h supThr_pos.le.not_gt
  · rintro ⟨i, j, hij, h⟩
    refine .inr ⟨(i, j), Finset.mem_univ _, ?_⟩
    rw [if_pos hij]
    exact h

/-- The kernel's mask, whichever branch it takes. -/
theorem keepOf_apply (ms : FVec Ideal S1x300 .f32) (v : FVec Ideal S300x300 .f32) :
    rowFun (keepOf (F := Ideal) ms v) = kept (matFun (k0_pay10 (F := Ideal) ms v)) 300 := by
  unfold keepOf
  split
  · refine keepAt_apply (k0_pay10 (F := Ideal) ms v) (k0_pay11 (F := Ideal) ms v) (fun i j => ?_) 300 le_rfl
    pointwise [k0_pay11]
  · next h =>
    rw [anySup_iff] at h
    push Not at h
    rw [kept_of_none (matFun (k0_pay10 (F := Ideal) ms v)) fun i j hij => not_lt.mpr (h i j hij)]
    exact keepAt_apply (k0_pay10 (F := Ideal) ms v) (k0_pay10 (F := Ideal) ms v) (fun _ _ => rfl) 0 (by omega)

end Cert.Proof

end
-- ==== Proof.KWeight.lean ====
/-
  The kernel's selection and write-back over the extended reals, at one element.
-/
module

public import proofs.«01_k».proof.Proof.KKeep

@[expose] public section

set_option maxRecDepth 16384

noncomputable section

namespace Cert.Proof

open Cert.KernelIdeal Cert.KernelIdeal.Gen
open Idealize.ShloMosaic

/-- The column of weights, over any matrix that picks the scores `t`, any mask and the identity matrix. -/
theorem weight_apply (a d : FVec Ideal S1x300 .f32) (e P : FVec Ideal S300x300 .f32) (t : Fin 300 → EReal)
    (he : ∀ i j : Fin 300, e (ix2 i j) = if i = j then (1 : EReal) else 0) (hp : ∀ k : Fin 300, ∑ j : Fin 300, P (ix2 k j) * a (ix2 0 j) = t k) (i : Fin 300) :
    (k0_pay16 (F := Ideal) a e P d) (ix2 i 0) = rowFun d i * valid t i * t i := by
  pointwise [k0_pay16]
  have h0 : IntOp.cmpi .eq (BitVec.ofNat 32 i.val) 0#32 = BitVec.ofBool (decide (i = 0)) := by
    rw [show (0#32 : BitVec 32) = BitVec.ofNat 32 0 from rfl, cmpi_eq_word _ _ (by omega) (by omega)]
    simp only [Fin.ext_iff]
    rfl
  simp only [hp, h0, he, ite_mul, one_mul, zero_mul, Finset.sum_ite_eq, Finset.mem_univ, if_true, sitofp_bit, Finset.univ_unique,
    Finset.sum_const, Finset.card_singleton, one_smul, sum_ite_eq_zero, andi_bits, ori_bits]
  simp only [valid, selThr, rowFun]
  congr

/-- The column that weighs the sorted masks. -/
theorem wOf_apply (ms : FVec Ideal S1x300 .f32) (v : FVec Ideal S300x300 .f32) (i : Fin 300) :
    (wOf (F := Ideal) ms v) (ix2 i 0)
      = rowFun (keepOf (F := Ideal) ms v) i * valid (fun j => scoreOf ms (ord (scoreOf ms) j)) i * scoreOf ms (ord (scoreOf ms) i) := by
  refine weight_apply _ _ _ _ _ eye_apply (fun k => ?_) i
  have e : ∀ j : Fin 300, (k0_pay7 (F := Ideal) ms) (ix2 0 j) = ms (ix2 0 j) := fun j => by pointwise [k0_pay7]
  simp only [e]
  exact perm_sum ms k fun j => ms (ix2 0 j)

theorem first_stream_apply (p : FVec Ideal S300x300 .f32) (w : FVec Ideal S300x1 .f32) (b : FVec Ideal S1x300x8x224 .bf16) (i : Fin 300) (r : Fin 8) (c : Fin 224)
    (h : S1x1x300x8x224.numel = S300x8x224.numel) :
    (shapeCast S300x8x224 (k0_pay19 (F := Ideal) p w b) h) (ix3 i r c) = (∑ j : Fin 300, p (ix2 i j) * b (ix4 0 j r c)) * w (ix2 i 0) := by
  pointwise [k0_pay19, k0_pay17, k0_pay18]

theorem second_stream_apply (p : FVec Ideal S300x300 .f32) (w : FVec Ideal S300x1 .f32) (b : FVec Ideal S1x300x8x224 .bf16) (i : Fin 300) (r : Fin 8) (c : Fin 224)
    (h : S1x1x300x8x224.numel = S300x8x224.numel) :
    (shapeCast S300x8x224 (k0_pay2 (F := Ideal) (k0_pay17 p) (k0_pay18 w) b) h) (ix3 i r c) = (∑ j : Fin 300, p (ix2 i j) * b (ix4 0 j r c)) * w (ix2 i 0) := by
  pointwise [k0_pay2, k0_pay17, k0_pay18]

/-- What the kernel leaves in a block, at one element. -/
theorem outVal_apply (ms : FVec Ideal S1x300 .f32) (B : Fin 2 → ℕ → FVec Ideal S300x8x224 .f32) (s : Fin 2) (u : ℕ) (i : Fin 300) (r : Fin 8) (c : Fin 224) :
    (outVal (F := Ideal) ms B s u) (ix3 i r c)
      = Ideal.logistic (B s u (ix3 (ord (scoreOf ms) i) r c)) * (wOf (F := Ideal) ms (interAcc (F := Ideal) B 7)) (ix2 i 0) := by
  have hp : ∀ j : Fin 300, (permOf (F := Ideal) ms) (ix2 i j) = (k0_pay9 (F := Ideal) ms) (ix2 i j) := fun j => by
    unfold permOf
    generalize k0_pay9 (F := Ideal) ms = P
    pointwise [k0_pay15]
  have hq : ∑ j : Fin 300, (permOf (F := Ideal) ms) (ix2 i j) * (k0_pay3 (F := Ideal) (B s u)) (ix4 0 j r c) = Ideal.logistic (B s u (ix3 (ord (scoreOf ms) i) r c)) := by
    simp only [hp, sig_apply]
    exact perm_sum ms i fun j => Ideal.logistic (B s u (ix3 j r c))
  unfold outVal blkVal
  by_cases hs : s = 0
  · rw [if_pos hs, ← hq]
    exact first_stream_apply _ _ _ i r c _
  · rw [if_neg hs, ← hq]
    exact second_stream_apply _ _ _ i r c _

end Cert.Proof

end
-- ==== Proof.Scores.lean ====
/-
  The scores: the softmax's largest entry over all classes but the last, as the host computes it before the launch.
-/
module

public import proofs.«01_k».proof.Proof.Launch
public import Idealize.ShloMosaic.Lib.StableHlo.RunRead

@[expose] public section

set_option maxRecDepth 16384

noncomputable section

namespace Cert.Proof

open Cert.KernelIdeal Cert.KernelIdeal.Gen
open Idealize.ShloMosaic Idealize.ShloMosaic.TcCoe Idealize.ShloMosaic.StableHlo

variable {F : FTy → Type} [FloatOps F]

/-- A row's logits less their largest, exponentiated. -/
def expOf (a : FVec F S300x41 .f32) : FVec F S300x41 .f32 :=
  Host.exp (subf a (broadcastInDim S300x41 ![0, 1] bcast_S300x1_S300x41_0_1 (broadcastInDim S300x1 ![0] bcast_S300_S300x1_0
    (maximumf (broadcastInDim S300 ![] bcast_S_S300 (constant S_ .f32 0xFF800000#32))
      (Host.reduce FloatOps.maximumf a (constant S_ .f32 0xFF800000#32) reducesTo_S300x41_S300_d1 h_S_)))))

/-- The largest softmax value over the first 40 classes. -/
def scoresOf (a : FVec F S300x41 .f32) : FVec F S300 .f32 :=
  Host.reduce FloatOps.maximumf
    (extractStridedSlice S300x40 ![0, 0]
      (Host.divf (expOf a) (broadcastInDim S300x41 ![0, 1] bcast_S300x1_S300x41_0_1 (broadcastInDim S300x1 ![0] bcast_S300_S300x1_0
        (Host.reduceAdd (expOf a) (constant S_ .f32 0x00000000#32) reducesTo_S300x41_S300_d1 h_S_))))
      slices_S300x41_S300x40_0_0)
    (constant S_ .f32 0xFF800000#32) reducesTo_S300x40_S300_d1 h_S_

variable (m : (ℓ : Loc nD τ sig) → Buf (Elt F) ℓ) (c : Dev nD)

/-- The launch finds the scores as one row. -/
theorem V_scores : V m c main_v13 = shapeCast S1x300 (scoresOf (m ((c.tc : Thread nD τ).loc main_arg0))) shapeCasts_S300_S1x300 := by
  unfold V
  after_reads_simp
  rfl

end Cert.Proof

end
-- ==== Proof.KResult.lean ====
/-
  The kernel's result over the extended reals: what its array holds at every index, in terms of the two arguments.
-/
module

public import proofs.«01_k».proof.Proof.KWeight
public import proofs.«01_k».proof.Proof.Scores

@[expose] public section

set_option maxRecDepth 16384

noncomputable section

namespace Cert.Proof

open Cert.KernelIdeal Cert.KernelIdeal.Gen
open Idealize.ShloMosaic Idealize.ShloMosaic.TcCoe

section anyF

variable {F : FTy → Type} [FloatOps F]
variable (m : (ℓ : Loc nD τ sig) → Buf (Elt F) ℓ) (c : Dev nD)

/-- Where the windows stand: the scores whole, the streams' blocks at rows `8u` of the two halves. -/
theorem stand_scores (t : Fin cfg0.N) : ∀ a : Fin 2, win0_0.index t a = 0 :=
  (by decide +kernel : ∀ (t : Fin grid0.N) (a : Fin 2), win0_0.index t a = 0) t
theorem stand_first : ∀ u : Fin 8, win0_1.index (pt u.val) (0 : Fin 3) = 0 ∧ win0_1.index (pt u.val) (1 : Fin 3) = u.val ∧ win0_1.index (pt u.val) (2 : Fin 3) = 0 := by
  decide +kernel
theorem stand_second : ∀ u : Fin 8, win0_2.index (pt u.val) (0 : Fin 3) = 0 ∧ win0_2.index (pt u.val) (1 : Fin 3) = u.val + 8 ∧ win0_2.index (pt u.val) (2 : Fin 3) = 0 := by
  decide +kernel

/-- A row of the masks, from a stream's block and the row within it. -/
def rowAt (s : Fin 2) (u r : Fin 8) : Fin 128 := ⟨8 * u.val + 64 * s.val + r.val, by omega⟩

/-- The scores the kernel reads are the softmax's. -/
theorem msOf_apply (i : Fin 300) : msOf m c (ix2 0 i) = scoresOf (m ((c.tc : Thread nD τ).loc main_arg0)) (ix1 i) := by
  have h : msOf m c (ix2 0 i) = V m c main_v13 (ix2 0 i) := by
    unfold msOf iblk
    refine congrArg (V m c main_v13) (funext fun a => Fin.ext ?_)
    match a with
    | ⟨0, _⟩ => show win0_0.index (pt 0) (0 : Fin 2) * 1 + 1 * 0 = 0; rw [stand_scores]
    | ⟨1, _⟩ => show win0_0.index (pt 0) (1 : Fin 2) * 300 + 1 * i.val = i.val; rw [stand_scores]; omega
  rw [h, V_scores]
  generalize scoresOf (m ((c.tc : Thread nD τ).loc main_arg0)) = v
  pointwise []

/-- A block of a stream is the masks at its rows. -/
theorem blksOf_apply (s : Fin 2) (u r : Fin 8) (i : Fin 300) (w : Fin 224) :
    blksOf m c s u.val (ix3 i r w) = m ((c.tc : Thread nD τ).loc main_arg1) (ix3 i (rowAt s u r) w) := by
  rw [← V_main_arg1 m c]
  unfold blksOf
  match s with
  | ⟨0, _⟩ =>
    obtain ⟨h0, h1, h2⟩ := stand_first u
    unfold iblk
    refine congrArg (V m c main_arg1) (funext fun a => Fin.ext ?_)
    match a with
    | ⟨0, _⟩ => show win0_1.index (pt u.val) (0 : Fin 3) * 300 + 1 * i.val = i.val; rw [h0]; omega
    | ⟨1, _⟩ => show win0_1.index (pt u.val) (1 : Fin 3) * 8 + 1 * r.val = 8 * u.val + 64 * 0 + r.val; rw [h1]; omega
    | ⟨2, _⟩ => show win0_1.index (pt u.val) (2 : Fin 3) * 224 + 1 * w.val = w.val; rw [h2]; omega
  | ⟨1, _⟩ =>
    obtain ⟨h0, h1, h2⟩ := stand_second u
    unfold iblk
    refine congrArg (V m c main_arg1) (funext fun a => Fin.ext ?_)
    match a with
    | ⟨0, _⟩ => show win0_2.index (pt u.val) (0 : Fin 3) * 300 + 1 * i.val = i.val; rw [h0]; omega
    | ⟨1, _⟩ => show win0_2.index (pt u.val) (1 : Fin 3) * 8 + 1 * r.val = 8 * u.val + 64 * 1 + r.val; rw [h1]; omega
    | ⟨2, _⟩ => show win0_2.index (pt u.val) (2 : Fin 3) * 224 + 1 * w.val = w.val; rw [h2]; omega

/-- An array written block by block holds a block's value at that block's rows. -/
theorem written_apply {ms : Vec F S1x300 .f32} {B : Fin 2 → ℕ → Vec F S300x8x224 .f32} {g : Buf (Elt F) ((c : Thread nD τ).loc main_v14)}
    (h : Written c ms B g) (s : Fin 2) (u r : Fin 8) (i : Fin 300) (w : Fin 224) :
    g (ix3 i (rowAt s u r) w) = outVal ms B s u.val (ix3 i r w) := by
  rw [← congrFun (h s u) (ix3 i r w)]
  refine congrArg g (funext fun a => Fin.ext ?_)
  match a with
  | ⟨0, _⟩ => show i.val = 0 + 1 * i.val; omega
  | ⟨1, _⟩ => show 8 * u.val + 64 * s.val + r.val = 8 * u.val + 64 * s.val + 1 * r.val; omega
  | ⟨2, _⟩ => show w.val = 0 + 1 * w.val; omega

end anyF

/-- Every row of the masks is in a block of a stream. -/
theorem rowAt_surjective (y : Fin 128) : ∃ s u r, y = rowAt s u r :=
  ⟨⟨y.val / 64, by omega⟩, ⟨y.val % 64 / 8, by omega⟩, ⟨y.val % 8, by omega⟩, Fin.ext (show y.val = 8 * (y.val % 64 / 8) + 64 * (y.val / 64) + y.val % 8 by omega)⟩

/-- A sum over the rows, block by block. -/
theorem sum_rows (f : Fin 128 → EReal) :
    ∑ y, f y = ∑ u ∈ Finset.range 8, ((∑ r : Fin 8, f (rowAt 0 (Fin.ofNat 8 u) r)) + ∑ r : Fin 8, f (rowAt 1 (Fin.ofNat 8 u) r)) := by
  rw [Finset.sum_range]
  simp only [Fin.ofNat_val_eq_self]
  have e : Function.Bijective (fun p : Fin 2 × Fin 8 × Fin 8 => rowAt p.1 p.2.1 p.2.2) := by
    constructor
    · rintro ⟨s, u, r⟩ ⟨s', u', r'⟩ h
      have := congrArg Fin.val h
      simp only [rowAt] at this
      simp only [Prod.mk.injEq, Fin.ext_iff]; omega
    · intro y; obtain ⟨s, u, r, h⟩ := rowAt_surjective y; exact ⟨(s, u, r), h.symm⟩
  rw [← e.sum_comp f, Fintype.sum_prod_type, Fin.sum_univ_two, Fintype.sum_prod_type, Fintype.sum_prod_type, ← Finset.sum_add_distrib]

/-- The masks as a function of query, row and column. -/
def masksOf (x : FVec Ideal S300x128x224 .f32) (i : Fin 300) (r : Fin 128) (w : Fin 224) : EReal := x (ix3 i r w)

/-- The counts the kernel holds after its eighth pair of blocks are the counts over the whole masks. -/
theorem counts_eq (B : Fin 2 → ℕ → Vec Ideal S300x8x224 .f32) (x : FVec Ideal S300x128x224 .f32)
    (hB : ∀ (s : Fin 2) (u r : Fin 8) (i : Fin 300) (w : Fin 224), B s u.val (ix3 i r w) = x (ix3 i (rowAt s u r) w)) (i j : Fin 300) :
    (interAcc (F := Ideal) B 7 (ix2 i j) : EReal) = shared (masksOf x) i j := by
  rw [interAcc_apply]
  unfold shared
  rw [sum_rows]
  refine Finset.sum_congr rfl fun u hu => ?_
  have hu' : u < 8 := Finset.mem_range.mp hu
  have e : (Fin.ofNat 8 u).val = u := Nat.mod_eq_of_lt hu'
  unfold sharedIn masksOf
  have hB' : ∀ (s : Fin 2) (r : Fin 8) (i : Fin 300) (w : Fin 224), B s u (ix3 i r w) = x (ix3 i (rowAt s (Fin.ofNat 8 u) r) w) := by
    intro s r i w; rw [← hB, e]
  simp only [hB']

/-- The value of a written array at an index: the result named in `Spec`. -/
theorem written_result (c : Dev nD) {ms : Vec Ideal S1x300 .f32} {B : Fin 2 → ℕ → Vec Ideal S300x8x224 .f32} {g : Buf (Elt Ideal) ((c : Thread nD τ).loc main_v14)}
    (h : Written c ms B g) (x : FVec Ideal S300x128x224 .f32)
    (hB : ∀ (s : Fin 2) (u r : Fin 8) (i : Fin 300) (w : Fin 224), B s u.val (ix3 i r w) = x (ix3 i (rowAt s u r) w))
    (i : Fin 300) (y : Fin 128) (w : Fin 224) :
    g (ix3 i y w) = result (scoreOf ms) (masksOf x) i y w := by
  obtain ⟨s, u, r, rfl⟩ := rowAt_surjective y
  refine (written_apply c h s u r i w).trans ?_
  rw [outVal_apply, wOf_apply, keepOf_apply, hB]
  have hM : matFun (k0_pay10 (F := Ideal) ms (interAcc B 7)) = fun a b => overlap (masksOf x) (ord (scoreOf ms) a) (ord (scoreOf ms) b) := by
    funext a b
    refine (sortedOverlap_apply ms _ a b).trans ?_
    unfold overlapOf overlap
    simp only [counts_eq B x hB]
  rw [hM]
  rfl

end Cert.Proof

end
-- ==== Proof.RefIou.lean ====
/-
  The reference's masks and overlaps, read at an index.
-/
module

public import proofs.«01_k».proof.Proof.RefRun
public import proofs.«01_k».proof.Proof.Spec
public import proofs.«01_k».proof.Proof.Scalars
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

variable {F : FTy → Type} [FloatOps F]

/-- The sigmoid of the masks. -/
def soft (x : FVec F S300x128x224 .f32) : FVec F S300x128x224 .f32 :=
  Host.divf (broadcastInDim S300x128x224 ![] bcast_S_S300x128x224 (constant S_ .f32 0x3F800000#32))
    (addf (broadcastInDim S300x128x224 ![] bcast_S_S300x128x224 (constant S_ .f32 0x3F800000#32)) (Host.exp (Host.negf x)))

/-- The masks made 0 or 1, a row of lanes per query. -/
def hard (x : FVec F S300x128x224 .f32) : FVec F S300x28672 .f32 :=
  shapeCast S300x28672 (uitofp .f32 (cmpf .ogt (soft x) (broadcastInDim S300x128x224 ![] bcast_S_S300x128x224 (constant S_ .f32 0x3F000000#32)))) shapeCasts_S300x128x224_S300x28672

/-- The lanes two queries share. -/
def inter (x : FVec F S300x128x224 .f32) : FVec F S300x300 .f32 :=
  Host.dotGeneral dot_S300x28672_S28672x300_S300x300_1_0_0_1_n_n none (hard x) (transpose S28672x300 [1, 0] (hard x) transposes_S300x28672_S28672x300_1_0)

/-- The lanes each query has. -/
def area (x : FVec F S300x128x224 .f32) : FVec F S300 .f32 :=
  Host.reduceAdd (hard x) (constant S_ .f32 0x00000000#32) reducesTo_S300x28672_S300_d1 h_S_

/-- The lanes two queries have between them. -/
def union (x : FVec F S300x128x224 .f32) : FVec F S300x300 .f32 :=
  subf (addf (broadcastInDim S300x300 ![0, 1] bcast_S300x1_S300x300_0_1 (broadcastInDim S300x1 ![0] bcast_S300_S300x1_0 (area x)))
    (broadcastInDim S300x300 ![0, 1] bcast_S1x300_S300x300_0_1 (broadcastInDim S1x300 ![1] bcast_S300_S1x300_1 (area x)))) (inter x)

theorem soft_apply (x : FVec Ideal S300x128x224 .f32) (i : Fin 300) (r : Fin 128) (w : Fin 224) : soft x (ix3 i r w) = Ideal.logistic (x (ix3 i r w)) := by
  unfold soft
  pointwise []
  rfl

/-- The masks as a function of query, row and column. -/
def masks (x : FVec Ideal S300x128x224 .f32) (i : Fin 300) (r : Fin 128) (w : Fin 224) : EReal := x (ix3 i r w)

theorem hard_apply (x : FVec Ideal S300x128x224 .f32) (i : Fin 300) (k : Fin 28672) :
    hard x (ix2 i k) = lit (masks x i ⟨k.val / 224, by omega⟩ ⟨k.val % 224, by omega⟩) := by
  unfold hard soft
  pointwise []
  simp only [uitofp_bit]
  refine (if_congr (half_lt_logistic _) rfl rfl).trans ?_
  unfold masks
  rfl

/-- A sum over the 28672 lanes is one over the rows and columns. -/
theorem sum_all_lanes (f : Fin 128 → Fin 224 → EReal) :
    ∑ k : Fin 28672, f ⟨k.val / 224, by omega⟩ ⟨k.val % 224, by omega⟩ = ∑ r : Fin 128, ∑ w : Fin 224, f r w := by
  rw [← Fintype.sum_prod_type']
  exact Fintype.sum_equiv (finProdFinEquiv (m := 128) (n := 224)).symm _ _ fun k => rfl

theorem inter_sum (a : FVec Ideal S300x28672 .f32) (i j : Fin 300) :
    (Host.dotGeneral (F := Ideal) dot_S300x28672_S28672x300_S300x300_1_0_0_1_n_n none a (transpose S28672x300 [1, 0] a transposes_S300x28672_S28672x300_1_0)) (ix2 i j)
      = ∑ k : Fin 28672, a (ix2 i k) * a (ix2 j k) := by
  pointwise []

theorem area_sum (a : FVec Ideal S300x28672 .f32) (i : Fin 300) :
    (Host.reduceAdd (F := Ideal) a (constant S_ .f32 0x00000000#32) reducesTo_S300x28672_S300_d1 h_S_) (ix1 i) = ∑ k : Fin 28672, a (ix2 i k) := by
  pointwise []

theorem union_apply (x : FVec Ideal S300x128x224 .f32) (i j : Fin 300) : union x (ix2 i j) = area x (ix1 i) + area x (ix1 j) - inter x (ix2 i j) := by
  unfold union
  generalize area x = a
  generalize inter x = b
  pointwise []

theorem inter_apply (x : FVec Ideal S300x128x224 .f32) (i j : Fin 300) : inter x (ix2 i j) = shared (masks x) i j := by
  unfold inter
  rw [inter_sum]
  simp only [hard_apply]
  exact sum_all_lanes fun r w => lit (masks x i r w) * lit (masks x j r w)

theorem area_apply (x : FVec Ideal S300x128x224 .f32) (i : Fin 300) : area x (ix1 i) = shared (masks x) i i := by
  unfold area
  rw [area_sum, shared_self]
  simp only [hard_apply]
  exact sum_all_lanes fun r w => lit (masks x i r w)

/-- The overlap of two queries. -/
theorem iou_apply (x : FVec Ideal S300x128x224 .f32) (i j : Fin 300) :
    (Host.divf (inter x) (maximumf (broadcastInDim S300x300 ![] bcast_S_S300x300 (constant (F := Ideal) S_ .f32 0x3F800000#32)) (union x))) (ix2 i j)
      = overlap (masks x) i j := by
  have h : ∀ a b : FVec Ideal S300x300 .f32,
      (Host.divf a (maximumf (broadcastInDim S300x300 ![] bcast_S_S300x300 (constant (F := Ideal) S_ .f32 0x3F800000#32)) b)) (ix2 i j)
        = Ideal.div (a (ix2 i j)) (max (b (ix2 i j)) 1) := fun a b => by
    pointwise []
    rw [max_comm]
  rw [h, union_apply, inter_apply, area_apply, area_apply]
  rfl

end Cert.Proof.Ref

end
-- ==== Proof.RefOrder.lean ====
/-
  The reference's sort, its two takes and its valid flags, read at an index.
-/
module

public import proofs.«01_k».proof.Proof.RefRun
public import proofs.«01_k».proof.Proof.Spec
public import proofs.«01_k».proof.Proof.Scalars
public import Idealize.ShloMosaic.Lib.Pointwise
public import Idealize.ShloMosaic.Lib.SortFacts
public import Idealize.ShloMosaic.Lib.IndicatorCount
public import Idealize.ShloMosaic.Lib.Routing.OpsSearch
public import Idealize.ShloMosaic.Lib.Routing.OpsSet

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

/-- A score list as a function of the query. -/
def vec (v : FVec Ideal S300 .f32) (i : Fin 300) : EReal := v (ix1 i)

/-- A key that is zero is replaced by zero, and no key differs from itself: the key stays. -/
theorem key_eq (x : EReal) :
    (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) : EReal) = x := by
  have h1 : FloatOps.cmpf (F := Ideal) (φ := .f32) .une x x = 0#1 := by
    show BitVec.ofBool (decide (x ≠ x)) = 0#1
    simp
  rw [h1]
  show Scalar.select (BitVec.ofBool (decide (x = FloatOps.ofBits (F := Ideal) .f32 0x00000000#32))) _ x = x
  by_cases h : x = FloatOps.ofBits (F := Ideal) .f32 0x00000000#32
  · rw [decide_eq_true h]; exact h.symm
  · rw [decide_eq_false h]; rfl

/-- The comparator compares the keys. -/
theorem comparator_iff (l r : EReal × BitVec 32) : comparator_f32_i32_d0 (F := Ideal) l r = BitVec.ofBool (decide (l.1 < r.1)) := by
  have h : comparator_f32_i32_d0 (F := Ideal) l r = FloatOps.cmpfTotal (F := Ideal) (φ := .f32) .lt l.1 r.1 :=
    congrArg₂ (FloatOps.cmpfTotal (F := Ideal) (φ := .f32) .lt) (key_eq l.1) (key_eq r.1)
  rw [h]; rfl

/-- A sort of two lists of one axis by the first: the second list read at the sorted positions. -/
theorem sort2_second {α β : Type} {n : ℕ} (cmp : α × β → α × β → BitVec 1) (x : (⟨1, ![n]⟩ : Shape).Idx → α) (y : (⟨1, ![n]⟩ : Shape).Idx → β) (k : Fin n) :
    (Host.sort2 (⟨1, ![n]⟩ : Shape) 0 cmp x y).2 (ix1 k) = y (ix1 (sortedFrom (fun a b : Fin n => cmp (x (ix1 a), y (ix1 a)) (x (ix1 b), y (ix1 b)) == 1#1) k)) := by
  have e : ∀ q : Fin n, (ix1 k : (⟨1, ![n]⟩ : Shape).Idx).along (0 : Fin 1) q = ix1 q := fun q => by
    rw [Shape.Idx.along_rank1]
    funext a
    have : a = 0 := Subsingleton.elim _ _
    subst this; rfl
  have hR : (fun a b : Fin n => cmp (x ((ix1 k : (⟨1, ![n]⟩ : Shape).Idx).along (0 : Fin 1) a), y ((ix1 k : (⟨1, ![n]⟩ : Shape).Idx).along (0 : Fin 1) a))
      (x ((ix1 k : (⟨1, ![n]⟩ : Shape).Idx).along (0 : Fin 1) b), y ((ix1 k : (⟨1, ![n]⟩ : Shape).Idx).along (0 : Fin 1) b)) == 1#1)
      = fun a b => cmp (x (ix1 a), y (ix1 a)) (x (ix1 b), y (ix1 b)) == 1#1 := by
    funext a b; rw [e, e]
  refine (congrArg y (e _)).trans ?_
  exact congrArg (fun R => y (ix1 (sortedFrom R k))) hR

/-- The sorted query numbers: the order of the scores. -/
theorem sort_apply (v : FVec Ideal S300 .f32) (k : Fin 300) :
    (Host.sort2 S300 0 (comparator_f32_i32_d0 (F := Ideal)) (Host.negf v) (iotaInDim S300 32 0)).2 (ix1 k) = BitVec.ofNat 32 (ord (vec v) k).val := by
  refine (sort2_second (comparator_f32_i32_d0 (F := Ideal)) (Host.negf v) (iotaInDim S300 32 0) k).trans ?_
  have hR : (fun q q' : Fin 300 => comparator_f32_i32_d0 (F := Ideal)
      (Host.negf v (ix1 q), iotaInDim S300 32 0 (ix1 q)) (Host.negf v (ix1 q'), iotaInDim S300 32 0 (ix1 q')) == 1#1)
      = fun q q' => decide (vec v q' < vec v q) := by
    funext q q'
    rw [comparator_iff]
    show (BitVec.ofBool (decide (-(v (ix1 q)) < -(v (ix1 q')))) == 1#1) = _
    unfold vec
    simp only [EReal.neg_lt_neg_iff]
    by_cases h : v (ix1 q') < v (ix1 q) <;> simp [h]
  rw [← sortedFrom_greater (vec v) (fun q q' => decide (vec v q' < vec v q)) (fun i j => decide_eq_true_iff), ← hR]
  rfl

/-- A query number as a start index: a negative one would count from the end. -/
def wrap (o : IVec S300 32) : IVec S300x1 32 :=
  broadcastInDim S300x1 ![0] bcast_S300_S300x1_0
    (select (cmpi .slt o (broadcastInDim S300 ![] bcast_S_S300 (constantI S_ 32 0#32)))
      (addi o (broadcastInDim S300 ![] bcast_S_S300 (constantI S_ 32 300#32))) o)

theorem wrap_apply (o : IVec S300 32) (i k : Fin 300) (h : o (ix1 i) = BitVec.ofNat 32 k.val) : wrap o (ix2 i 0) = BitVec.ofNat 32 k.val := by
  have e : wrap o (ix2 i 0) = Scalar.select (IntOp.cmpi .slt (o (ix1 i)) 0#32) (IntOp.addi (o (ix1 i)) 300#32) (o (ix1 i)) := by
    unfold wrap
    pointwise []
  rw [e, h]
  have : IntOp.cmpi .slt (BitVec.ofNat 32 k.val) 0#32 = 0#1 := by
    rw [show (0#32 : BitVec 32) = BitVec.ofNat 32 0 from rfl, cmpi_slt_word _ _ (by omega) (by omega)]
    simp
  rw [this]; rfl

/-- The scores taken in an order. -/
theorem take_scores (v : FVec Ideal S300 .f32) (o : IVec S300 32) (i k : Fin 300) (h : o (ix1 i) = BitVec.ofNat 32 k.val) :
    Host.gather gather_S300_S300x1_S300_n_0_n_n_0_1_1 v (wrap o) (ix1 i) = v (ix1 k) := by
  have e : ∀ q : Fin 300, (ix1 q : S300.Idx) = ValueIdx.ix1 q := fun q => rfl
  rw [e, e]
  exact Routing.take_ap gather_S300_S300x1_S300_n_0_n_n_0_1_1 rfl rfl rfl rfl v (wrap o) i k.isLt (by omega) (wrap_apply o i k h)

/-- The masks taken in an order: whole planes. -/
theorem take_masks (x : FVec Ideal S300x128x224 .f32) (o : IVec S300 32) (i k : Fin 300) (h : o (ix1 i) = BitVec.ofNat 32 k.val) (r : Fin 128) (w : Fin 224) :
    Host.gather gather_S300x128x224_S300x1_S300x128x224_12_0_n_n_0_1_1128224 x (wrap o) (ix3 i r w) = x (ix3 k r w) := by
  unfold Host.gather
  have hs : gather_S300x128x224_S300x1_S300x128x224_12_0_n_n_0_1_1128224.start (ix3 i r w) (wrap o) (0 : Fin 3) = k.val := by
    have e : gather_S300x128x224_S300x1_S300x128x224_12_0_n_n_0_1_1128224.start (ix3 i r w) (wrap o) (0 : Fin 3) = min (wrap o (ix2 i 0)).toInt.toNat 299 := by
      unfold GatherDims.start
      rw [dif_pos (by decide)]
      refine congrArg (fun q => min (wrap o q).toInt.toNat 299) (funext fun b => Fin.ext ?_)
      match b with
      | ⟨0, _⟩ => rfl
      | ⟨1, _⟩ => rfl
    rw [e, wrap_apply o i k h, word_toInt _ (by omega)]
    simp only [Int.toNat_natCast]
    omega
  refine congrArg x (funext fun a => Fin.ext ?_)
  match a with
  | ⟨0, _⟩ => exact hs
  | ⟨1, _⟩ => show 0 + 0 + r.val = r.val; omega
  | ⟨2, _⟩ => show 0 + 0 + w.val = w.val; omega

end Cert.Proof.Ref

end
-- ==== Proof.RefValid.lean ====
/-
  The reference's selection flags, read at an index.
-/
module

public import proofs.«01_k».proof.Proof.RefOrder

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

variable {F : FTy → Type} [FloatOps F]

/-- The rows above the threshold. -/
def above (t : FVec F S300 .f32) : IVec S300 1 := cmpf .ogt t (broadcastInDim S300 ![] bcast_S_S300 (constant S_ .f32 0x3DCCCCCD#32))
/-- Whether there is none. -/
def none (g : IVec S300 1) : IVec S_ 1 :=
  cmpi .eq (Host.reduce IntOp.addi (extui 32 g natLt_1_32) (constantI S_ 32 0#32) reducesTo_S300_S_d0 h_S_) (constantI S_ 32 0#32)
/-- The flags with the first one set. -/
def firstSet (g : IVec S300 1) : IVec S300 1 :=
  Host.scatter scatter_S300_S1_S__n_0_0_0 (fun _ b => b) g (broadcastInDim S1 ![] bcast_S_S1 (constantI S_ 32 0#32)) (constantI S_ 1 1#1)
/-- The flags, the first set where there is none. -/
def flags (g : IVec S300 1) : IVec S300 1 := select (broadcastInDim S300 ![] bcast_S_S300 (none g)) (firstSet g) g

theorem above_apply (t : FVec Ideal S300 .f32) (i : Fin 300) : above t (ix1 i) = BitVec.ofBool (decide (selThr < vec t i)) := by
  unfold above
  pointwise []
  rfl

theorem none_apply (g : IVec S300 1) : none g ix0 = BitVec.ofBool (decide (∀ i : Fin 300, g (ix1 i) ≠ 1#1)) := by
  unfold none
  pointwise []
  rw [Idealize.ShloMosaic.IndicatorCount.fold_addi_setWidth_eq_card, show (0#32 : BitVec 32) = BitVec.ofNat 32 0 from rfl, cmpi_eq_word _ _ (lt_of_le_of_lt (Finset.card_le_univ _) (by simp)) (by omega)]
  simp only [Finset.card_eq_zero, Finset.filter_eq_empty_iff, Finset.mem_univ, true_implies]

/-- The one update lands at the first entry. -/
theorem lands (k : S_.Idx) : scatter_S300_S1_S__n_0_0_0.resultIdx? k (broadcastInDim S1 ![] bcast_S_S1 (constantI S_ 32 0#32)) = some (ix1 0) := by
  unfold ScatterDims.resultIdx?
  have e : ∀ a : Fin 1, scatter_S300_S1_S__n_0_0_0.start k (broadcastInDim S1 ![] bcast_S_S1 (constantI S_ 32 0#32)) a + scatter_S300_S1_S__n_0_0_0.window k a = 0 := by
    intro a
    obtain rfl : a = 0 := Subsingleton.elim _ _
    rfl
  rw [dif_pos (fun a => by rw [e]; exact ⟨le_refl _, by decide +revert⟩)]
  refine congrArg some (funext fun a => Fin.ext ?_)
  obtain rfl : a = 0 := Subsingleton.elim (α := Fin 1) _ _
  exact congrArg Int.toNat (e 0)

theorem firstSet_apply (g : IVec S300 1) (i : Fin 300) : firstSet g (ix1 i) = if i = 0 then 1#1 else g (ix1 i) := by
  unfold firstSet
  split
  · next h =>
    subst h
    exact Routing.scatter_set_hit _ _ _ _ _ _ (fun _ _ => rfl) (fun a => a.elim0) (lands _)
  · next h =>
    refine Routing.scatter_set_miss _ _ _ _ _ fun k hk => h ?_
    rw [lands] at hk
    have := congrFun (Option.some.inj hk) (0 : Fin 1)
    exact this.symm

theorem flags_apply (t : FVec Ideal S300 .f32) (i : Fin 300) : FloatOps.uitofp (F := Ideal) .f32 (flags (above t) (ix1 i)) = valid (vec t) i := by
  have e : ∀ (p : IVec S_ 1) (a b : IVec S300 1), select (broadcastInDim S300 ![] bcast_S_S300 p) a b (ix1 i) = Scalar.select (p ix0) (a (ix1 i)) (b (ix1 i)) := by
    intro p a b
    pointwise []
  unfold flags
  rw [e, none_apply, firstSet_apply, above_apply]
  simp only [select_bit, above_apply]
  have hb : ∀ j, (BitVec.ofBool (decide (selThr < vec t j)) ≠ 1#1) ↔ ¬ selThr < vec t j := fun j => by
    by_cases h : selThr < vec t j <;> simp [h]
  simp only [hb]
  unfold valid
  have one : (1#1 : BitVec 1) = BitVec.ofBool (decide True) := by simp
  rw [one, ← uitofp_bit]
  refine congrArg (FloatOps.uitofp (F := Ideal) .f32) ?_
  by_cases h : ∀ j : Fin 300, ¬ selThr < vec t j
  · rw [if_pos h]
    by_cases hi : i = 0
    · simp [hi, h]
    · simp [hi]
  · rw [if_neg h]
    simp only [h, and_false, or_false]

end Cert.Proof.Ref

end
-- ==== Proof.RefLoop.lean ====
/-
  The reference's loop: one trip is one round of the suppression.
-/
module

public import proofs.«01_k».proof.Proof.RefRun
public import proofs.«01_k».proof.Proof.Spec
public import proofs.«01_k».proof.Proof.Scalars
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

/-- Row `i` of a square, sliced at a start that holds its number. -/
theorem slice_row (M : FVec Ideal S300x300 .f32) (start : Fin 2 → Int) (i : Fin 300) (h0 : start 0 = i.val) (h1 : start 1 = 0)
    (h : S300x300.Slices (fun _ => 0) S1x300) (l : Fin 300) : Host.dynamicSlice S1x300 M start h (ix2 0 l) = M (ix2 i l) := by
  unfold Host.dynamicSlice extractStridedSlice
  refine congrArg M (funext fun a => Fin.ext ?_)
  match a with
  | ⟨0, _⟩ =>
    show (min (max (start 0) 0) ((300 - 1 : ℕ) : Int)).toNat + 0 = i.val
    rw [h0]; omega
  | ⟨1, _⟩ =>
    show (min (max (start 1) 0) ((300 - 300 : ℕ) : Int)).toNat + l.val = l.val
    rw [h1]; omega

/-- Entry `i` of a list, sliced at a start that holds its number. -/
theorem slice_entry (v : FVec Ideal S300 .f32) (start : Fin 1 → Int) (i : Fin 300) (h0 : start 0 = i.val)
    (h : S300.Slices (fun _ => 0) S1) : Host.dynamicSlice S1 v start h (ix1 0) = v (ix1 i) := by
  unfold Host.dynamicSlice extractStridedSlice
  refine congrArg v (funext fun a => Fin.ext ?_)
  match a with
  | ⟨0, _⟩ =>
    show (min (max (start 0) 0) ((300 - 1 : ℕ) : Int)).toNat + 0 = i.val
    rw [h0]; omega

/-- One trip's new mask, from the row of overlaps `row` and the kept row's entry `e`. -/
theorem trip_vec (k : FVec Ideal S300 .f32) (row : FVec Ideal S1x300 .f32) (e : FVec Ideal S1 .f32) (n : IVec S_ 32) (i : Fin 300) (hn : n = fun _ => BitVec.ofNat 32 i.val)
    (M : Fin 300 → Fin 300 → EReal) (hrow : ∀ l, row (ix2 0 l) = M i l) (he : e (ix1 0) = k (ix1 i)) (l : Fin 300) :
    mulf k (subf (broadcastInDim S300 ![] bcast_S_S300 (constant (F := Ideal) S_ .f32 0x3F800000#32))
      (uitofp .f32 (andi (andi (cmpf .ogt (shapeCast S300 row shapeCasts_S1x300_S300) (broadcastInDim S300 ![] bcast_S_S300 (constant (F := Ideal) S_ .f32 0x3F19999A#32)))
        (cmpi .sgt (iotaInDim S300 32 0) (broadcastInDim S300 ![] bcast_S_S300 n)))
        (broadcastInDim S300 ![] bcast_S_S300 (cmpf .ogt (shapeCast S_ e shapeCasts_S1_S_) (constant (F := Ideal) S_ .f32 0x00000000#32)))))) (ix1 l)
      = keepStep M i (fun l => k (ix1 l)) l := by
  subst hn
  pointwise []
  have h1 : IntOp.cmpi .sgt (BitVec.ofNat 32 l.val) (BitVec.ofNat 32 i.val) = BitVec.ofBool (decide (i < l)) := cmpi_sgt_word _ _ (by omega) (by omega)
  simp only [h1, hrow, he, andi_bits, uitofp_bit]
  rfl

end Cert.Proof.Ref

end
-- ==== Proof.RefCells.lean ====
/-
  The buffers the reference's host operations leave, stretch by stretch.
-/
module

public import proofs.«01_k».proof.Proof.RefIou
public import proofs.«01_k».proof.Proof.RefValid
public import proofs.«01_k».proof.Proof.RefLoop
public import proofs.«01_k».proof.Proof.Scores
public import Idealize.ShloMosaic.Lib.StableHlo.RunRead

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

variable {F : FTy → Type} [FloatOps F]
variable (V : Valuation τ sig (Elt F))

/-- The sorted query numbers. -/
def order (v : FVec F S300 .f32) : IVec S300 32 := (Host.sort2 S300 0 comparator_f32_i32_d0 (Host.negf v) (iotaInDim S300 32 0)).2
/-- The sorted scores. -/
def sortedScores (v : FVec F S300 .f32) (o : IVec S300 32) : FVec F S300 .f32 := Host.gather gather_S300_S300x1_S300_n_0_n_n_0_1_1 v (wrap o)
/-- The sorted masks. -/
def sortedMasks (x : FVec F S300x128x224 .f32) (o : IVec S300 32) : FVec F S300x128x224 .f32 :=
  Host.gather gather_S300x128x224_S300x1_S300x128x224_12_0_n_n_0_1_1128224 x (wrap o)

theorem s0_v12 : after hostOps0 V (Proc.devRef .tc main_v12) = scoresOf (F := F) (V (Proc.devRef .tc main_arg0)) := by
  after_reads_simp
  rfl
theorem s0_v13 : after hostOps0 V (Proc.devRef .tc main_v13) = Host.negf (scoresOf (F := F) (V (Proc.devRef .tc main_arg0)) : FVec F S300 .f32) := by
  after_reads_simp
  rfl
theorem s1_v14 : after hostOps0_1 V (Proc.devRef .tc main_v14) = (Host.sort2 S300 0 comparator_f32_i32_d0 (V (Proc.devRef .tc main_v13)) (iotaInDim S300 32 0)).2 := by
  after_reads_simp
  rfl
theorem s2_v21 : after hostOps0_2 V (Proc.devRef .tc main_v21) = sortedScores (V (Proc.devRef .tc main_v12)) (V (Proc.devRef .tc main_v14)) := by
  after_reads_simp
  rfl
theorem s2_v28 : after hostOps0_2 V (Proc.devRef .tc main_v28) = sortedMasks (V (Proc.devRef .tc main_arg1)) (V (Proc.devRef .tc main_v14)) := by
  after_reads_simp
  rfl
theorem s2_v30 : after hostOps0_2 V (Proc.devRef .tc main_v30) = above (sortedScores (V (Proc.devRef .tc main_v12)) (V (Proc.devRef .tc main_v14))) := by
  after_reads_simp
  rfl
theorem s2_v33 : after hostOps0_2 V (Proc.devRef .tc main_v33) = none (above (sortedScores (V (Proc.devRef .tc main_v12)) (V (Proc.devRef .tc main_v14)))) := by
  after_reads_simp
  rfl
theorem s2_v35 : after hostOps0_2 V (Proc.devRef .tc main_v35) = firstSet (above (sortedScores (V (Proc.devRef .tc main_v12)) (V (Proc.devRef .tc main_v14)))) := by
  after_reads_simp
  rfl
theorem s3_v36 : after hostOps0_3 V (Proc.devRef .tc main_v36)
    = select (broadcastInDim S300 ![] bcast_S_S300 (V (Proc.devRef .tc main_v33))) (V (Proc.devRef .tc main_v35)) (V (Proc.devRef .tc main_v30)) := by
  after_reads_simp
  rfl
theorem s4_v42 : after hostOps0_4 V (Proc.devRef .tc main_v42) = soft (V (Proc.devRef .tc main_v28)) := by
  after_reads_simp
  rfl
theorem s4_v48 : after hostOps0_4 V (Proc.devRef .tc main_v48) = inter (V (Proc.devRef .tc main_v28)) := by
  after_reads_simp
  rfl
theorem s4_v55 : after hostOps0_4 V (Proc.devRef .tc main_v55) = union (V (Proc.devRef .tc main_v28)) := by
  after_reads_simp
  rfl
theorem s4_cst : after hostOps0_4 V (Proc.devRef .tc main_cst_15) = constant S_ .f32 0x3F800000#32 := by
  after_reads_simp
theorem s5_v56 : after hostOps0_5 V (Proc.devRef .tc main_v56)
    = maximumf (broadcastInDim S300x300 ![] bcast_S_S300x300 (V (Proc.devRef .tc main_cst_15))) (V (Proc.devRef .tc main_v55)) := by
  after_reads_simp
  rfl
theorem s6_v59_0 : after hostOps0_6 V (Proc.devRef .tc main_v59_0) = Host.divf (V (Proc.devRef .tc main_v48)) (V (Proc.devRef .tc main_v56)) := by
  after_reads_simp
  rfl
theorem s6_v59_2 : after hostOps0_6 V (Proc.devRef .tc main_v59_2) = constantI S_ 32 0#32 := by
  after_reads_simp
  rfl
theorem s6_v59_3 : after hostOps0_6 V (Proc.devRef .tc main_v59_3) = broadcastInDim S300 ![] bcast_S_S300 (constant S_ .f32 0x3F800000#32) := by
  after_reads_simp
  rfl
/-- The result: the softened masks, each weighed by its query's kept flag, selection flag and score. -/
theorem s7_v65 : after hostOps0_7 V (Proc.devRef .tc main_v65)
    = mulf (V (Proc.devRef .tc main_v42)) (broadcastInDim S300x128x224 ![0, 1, 2] bcast_S300x1x1_S300x128x224_0_1_2 (broadcastInDim S300x1x1 ![0] bcast_S300_S300x1x1_0
        (mulf (mulf (V (Proc.devRef .tc main_v59_3)) (uitofp .f32 (V (Proc.devRef .tc main_v36)))) (V (Proc.devRef .tc main_v21))))) := by
  after_reads_simp

end Cert.Proof.Ref

end
-- ==== Proof.RefResult.lean ====
/-
  The reference's result over the extended reals: what its array holds at every index, in terms of the two arguments.
-/
module

public import proofs.«01_k».proof.Proof.RefCells

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

section anyF

variable {F : FTy → Type} [FloatOps F]
variable (V : Valuation τ sig (Elt F))

/-- The scores, their order, and the masks in that order, from the arguments. -/
def scoresAt : FVec F S300 .f32 := scoresOf (F := F) (V (Proc.devRef .tc main_arg0))
def orderAt : IVec S300 32 := order (scoresAt V)
def pickedAt : FVec F S300 .f32 := sortedScores (scoresAt V) (orderAt V)
def masksAt : FVec F S300x128x224 .f32 := sortedMasks (V (Proc.devRef .tc main_arg1)) (orderAt V)

theorem pre_v14 : after hostOps0_1 (after hostOps0 V) (Proc.devRef .tc main_v14) = orderAt V := by
  rw [s1_v14, s0_v13]; rfl
theorem pre_v12 : after hostOps0_1 (after hostOps0 V) (Proc.devRef .tc main_v12) = scoresAt V := by
  rw [after_of_writes_sub _ _ hostOps0_1_writes (by decide), s0_v12]; rfl
theorem pre_masks : after hostOps0_1 (after hostOps0 V) (Proc.devRef .tc main_arg1) = V (Proc.devRef .tc main_arg1) := by
  rw [after_of_writes_sub _ _ hostOps0_1_writes (by decide), after_of_writes_sub _ _ hostOps0_writes (by decide)]

theorem pre_v21 : afterL preI V (Proc.devRef .tc main_v21) = pickedAt V := by
  simp only [afterL_cons, afterL_nil]
  rw [after_of_writes_sub _ _ hostOps0_6_writes (by decide), after_of_writes_sub _ _ hostOps0_5_writes (by decide), after_of_writes_sub _ _ hostOps0_4_writes (by decide),
    after_of_writes_sub _ _ hostOps0_3_writes (by decide), s2_v21, pre_v12, pre_v14]
  rfl
theorem pre_v36 : afterL preI V (Proc.devRef .tc main_v36) = flags (above (pickedAt V)) := by
  simp only [afterL_cons, afterL_nil]
  rw [after_of_writes_sub _ _ hostOps0_6_writes (by decide), after_of_writes_sub _ _ hostOps0_5_writes (by decide), after_of_writes_sub _ _ hostOps0_4_writes (by decide),
    s3_v36, s2_v30, s2_v33, s2_v35, pre_v12, pre_v14]
  rfl
theorem pre_v28 : after hostOps0_3 (after hostOps0_2 (after hostOps0_1 (after hostOps0 V))) (Proc.devRef .tc main_v28) = masksAt V := by
  rw [after_of_writes_sub _ _ hostOps0_3_writes (by decide), s2_v28, pre_v14, pre_masks]
  rfl
theorem pre_v42 : afterL preI V (Proc.devRef .tc main_v42) = soft (masksAt V) := by
  simp only [afterL_cons, afterL_nil]
  rw [after_of_writes_sub _ _ hostOps0_6_writes (by decide), after_of_writes_sub _ _ hostOps0_5_writes (by decide), s4_v42, pre_v28]
theorem pre_v59_0 : afterL preI V (Proc.devRef .tc main_v59_0)
    = Host.divf (inter (masksAt V)) (maximumf (broadcastInDim S300x300 ![] bcast_S_S300x300 (constant S_ .f32 0x3F800000#32)) (union (masksAt V))) := by
  simp only [afterL_cons, afterL_nil]
  rw [s6_v59_0, s5_v56, after_of_writes_sub _ _ hostOps0_5_writes (by decide), s4_v48, s4_v55, s4_cst, pre_v28]
theorem pre_v59_2 : afterL preI V (Proc.devRef .tc main_v59_2) = constantI S_ 32 0#32 := by
  simp only [afterL_cons, afterL_nil]
  rw [s6_v59_2]
theorem pre_v59_3 : afterL preI V (Proc.devRef .tc main_v59_3) = broadcastInDim S300 ![] bcast_S_S300 (constant S_ .f32 0x3F800000#32) := by
  simp only [afterL_cons, afterL_nil]
  rw [s6_v59_3]

end anyF

section loop

variable (V : Valuation τ sig (Elt Ideal))

/-- The square of overlaps, the mask and the count, in a valuation. -/
def squareIn (V : Valuation τ sig (Elt Ideal)) (i j : Fin 300) : EReal := (V (Proc.devRef .tc main_v59_0) : FVec Ideal S300x300 .f32) (ix2 i j)
def maskIn (V : Valuation τ sig (Elt Ideal)) (l : Fin 300) : EReal := (V (Proc.devRef .tc main_v59_3) : FVec Ideal S300 .f32) (ix1 l)

/-- A small number is not below zero, so the wrapped index is it. -/
theorem wrapped (i : Fin 300) :
    (select (cmpi .slt (fun _ : S_.Idx => BitVec.ofNat 32 i.val) (constantI S_ 32 0#32)) (addi (fun _ : S_.Idx => BitVec.ofNat 32 i.val) (constantI S_ 32 300#32))
      (fun _ : S_.Idx => BitVec.ofNat 32 i.val) (Shape.Idx.first h_S_)).toInt = i.val := by
  show (Scalar.select (IntOp.cmpi .slt (BitVec.ofNat 32 i.val) 0#32) (IntOp.addi (BitVec.ofNat 32 i.val) 300#32) (BitVec.ofNat 32 i.val)).toInt = i.val
  have : IntOp.cmpi .slt (BitVec.ofNat 32 i.val) 0#32 = 0#1 := by
    rw [show (0#32 : BitVec 32) = BitVec.ofNat 32 0 from rfl, cmpi_slt_word _ _ (by omega) (by omega)]
    simp
  rw [this]
  exact word_toInt _ (by omega)

/-- One trip of the loop is one round. -/
theorem trip_round (i : Fin 300) (hn : (V (Proc.devRef .tc main_v59_2) : IVec S_ 32) = fun _ => BitVec.ofNat 32 i.val) :
    maskIn (afterL bodyI V) = keepStep (squareIn V) i (maskIn V) := by
  funext l
  unfold maskIn
  rw [trip_main_v59_3]
  refine trip_vec (V (Proc.devRef .tc main_v59_3)) _ _ _ i hn (squareIn V) (fun l => ?_) ?_ l
  · refine slice_row _ _ i ?_ rfl _ l
    show ((select (cmpi .slt (res_main_while0b_v67 V) (constantI S_ 32 0#32)) (addi (res_main_while0b_v67 V) (constantI S_ 32 300#32)) (res_main_while0b_v67 V) : IVec S_ 32)
      (Shape.Idx.first h_S_)).toInt = i.val
    have h : (res_main_while0b_v67 V : IVec S_ 32) = fun _ => BitVec.ofNat 32 i.val := hn
    rw [h]
    exact wrapped i
  · refine slice_entry _ _ i ?_ _
    show ((select (cmpi .slt (V (Proc.devRef .tc main_v59_2)) (constantI S_ 32 0#32)) (addi (V (Proc.devRef .tc main_v59_2)) (constantI S_ 32 300#32)) (V (Proc.devRef .tc main_v59_2)) : IVec S_ 32)
      (Shape.Idx.first h_S_)).toInt = i.val
    rw [hn]
    exact wrapped i

variable (m : (ℓ : Loc nD τ sig) → Buf (Elt Ideal) ℓ) (c : Dev nD)

/-- The carried buffers before trip `n`: the overlaps as they came, the count, and the rows kept after `n` rounds. -/
theorem trips : ∀ n, n ≤ 300 →
    (squareIn (atK m n c) = squareIn (entryContents preI m c)
      ∧ (atK m n c (Proc.devRef .tc main_v59_2) : IVec S_ 32) = (fun _ => BitVec.ofNat 32 n)
      ∧ maskIn (atK m n c) = kept (squareIn (entryContents preI m c)) n)
  | 0, _ => by
      refine ⟨rfl, pre_v59_2 _, ?_⟩
      funext l
      unfold maskIn
      show (afterL preI (launchContents m c) (Proc.devRef .tc main_v59_3) : FVec Ideal S300 .f32) (ix1 l) = (1 : EReal)
      rw [pre_v59_3]
      pointwise []
  | n + 1, hn => by
      obtain ⟨a, b, d⟩ := trips n (by omega)
      have hk := cond_keeps (atK m n c)
      have k0 : squareIn (after condOps (atK m n c)) = squareIn (atK m n c) := by
        unfold squareIn; rw [hk main_v59_0 (by simp)]
      have k3 : maskIn (after condOps (atK m n c)) = maskIn (atK m n c) := by
        unfold maskIn; rw [hk main_v59_3 (by simp)]
      have k2 : (after condOps (atK m n c) (Proc.devRef .tc main_v59_2) : IVec S_ 32) = fun _ => BitVec.ofNat 32 n := (hk main_v59_2 (by simp)).trans b
      have hs : atK m (n + 1) c = afterL bodyI (after condOps (atK m n c)) := rfl
      rw [hs]
      refine ⟨?_, ?_, ?_⟩
      · rw [← a, ← k0]
        unfold squareIn
        rw [trip_main_v59_0]
      · rw [trip_main_v59_2, k2]
        funext z
        show BitVec.ofNat 32 n + 1#32 = BitVec.ofNat 32 (n + 1)
        rw [BitVec.ofNat_add]
      · rw [trip_round (after condOps (atK m n c)) ⟨n, by omega⟩ k2, k0, k3, a, d]
        exact (kept_succ _ ⟨n, by omega⟩).symm

/-- The order, read: the order of the scores. -/
theorem orderAt_apply (V : Valuation τ sig (Elt Ideal)) (i : Fin 300) : orderAt V (ix1 i) = BitVec.ofNat 32 (ord (vec (scoresAt V)) i).val := sort_apply _ _

theorem pickedAt_vec (V : Valuation τ sig (Elt Ideal)) : vec (pickedAt V) = fun i => vec (scoresAt V) (ord (vec (scoresAt V)) i) :=
  funext fun i => take_scores _ _ i _ (orderAt_apply V i)

theorem masksAt_masks (V : Valuation τ sig (Elt Ideal)) :
    masks (masksAt V) = fun i => masks (V (Proc.devRef .tc main_arg1)) (ord (vec (scoresAt V)) i) :=
  funext fun i => funext fun r => funext fun w => take_masks _ _ i _ (orderAt_apply V i) r w

/-- The overlaps of queries taken in an order. -/
theorem overlap_comp (x : Fin 300 → Fin 128 → Fin 224 → EReal) (f : Fin 300 → Fin 300) (a b : Fin 300) :
    overlap (fun i => x (f i)) a b = overlap x (f a) (f b) := rfl

/-- The square the loop reads: the overlaps of the queries in the order of their scores. -/
theorem square_entry : squareIn (entryContents preI m c)
    = fun a b => overlap (masks (launchContents m c (Proc.devRef .tc main_arg1))) (ord (vec (scoresAt (launchContents m c))) a) (ord (vec (scoresAt (launchContents m c))) b) := by
  funext a b
  have h : squareIn (entryContents preI m c) a b = overlap (masks (masksAt (launchContents m c))) a b :=
    (congrFun (pre_v59_0 (launchContents m c)) (ix2 a b)).trans (iou_apply (masksAt (launchContents m c)) a b)
  rw [h, masksAt_masks]
  exact overlap_comp _ _ a b

/-- A list made constant on each plane. -/
theorem planes_apply (v : FVec Ideal S300 .f32) (i : Fin 300) (r : Fin 128) (w : Fin 224) :
    broadcastInDim S300x128x224 ![0, 1, 2] bcast_S300x1x1_S300x128x224_0_1_2 (broadcastInDim S300x1x1 ![0] bcast_S300_S300x1x1_0 v) (ix3 i r w) = v (ix1 i) :=
  Routing.bcSlab (N := 300) (a := 128) (b := 224) bcast_S300_S300x1x1_0 bcast_S300x1x1_S300x128x224_0_1_2 v i r w

/-- The weighing of the masks, at an index. -/
theorem weigh_apply (a : FVec Ideal S300x128x224 .f32) (k : FVec Ideal S300 .f32) (g : IVec S300 1) (t : FVec Ideal S300 .f32) (i : Fin 300) (r : Fin 128) (w : Fin 224) :
    mulf a (broadcastInDim S300x128x224 ![0, 1, 2] bcast_S300x1x1_S300x128x224_0_1_2 (broadcastInDim S300x1x1 ![0] bcast_S300_S300x1x1_0
        (mulf (mulf k (uitofp .f32 g)) t))) (ix3 i r w)
      = a (ix3 i r w) * (k (ix1 i) * FloatOps.uitofp (F := Ideal) .f32 (g (ix1 i)) * t (ix1 i)) :=
  congrArg (fun z : EReal => a (ix3 i r w) * z) (planes_apply _ i r w)

/-- The weighing of the softened masks, from what its parts hold. -/
theorem weigh_result (x : FVec Ideal S300x128x224 .f32) (k t : FVec Ideal S300 .f32) (v : FVec Ideal S300 .f32) (z : FVec Ideal S300x128x224 .f32)
    (hk : ∀ i, k (ix1 i) = kept (fun a b => overlap (masks z) (ord (vec v) a) (ord (vec v) b)) 300 i)
    (ht : vec t = fun i => vec v (ord (vec v) i)) (hx : masks x = fun i => masks z (ord (vec v) i)) (i : Fin 300) (r : Fin 128) (w : Fin 224) :
    mulf (soft x) (broadcastInDim S300x128x224 ![0, 1, 2] bcast_S300x1x1_S300x128x224_0_1_2 (broadcastInDim S300x1x1 ![0] bcast_S300_S300x1x1_0
        (mulf (mulf k (uitofp .f32 (flags (above t)))) t))) (ix3 i r w) = result (vec v) (masks z) i r w := by
  have hp : t (ix1 i) = vec v (ord (vec v) i) := congrFun ht i
  have hm : x (ix3 i r w) = masks z (ord (vec v) i) r w := congrFun (congrFun (congrFun hx i) r) w
  refine (weigh_apply _ _ _ _ i r w).trans ?_
  rw [soft_apply, flags_apply, hk, hp, hm, ht]
  rfl

/-- The buffers the last stretch reads, as the loop leaves them. -/
theorem last_keep (b : Ref sig .tc) (hc : b ∉ condOps_W) (hb : b ∉ while0Ops0_W) :
    after condOps (atTrip condOps bodyI (entryContents preI m) 300 c) (Proc.devRef .tc b) = afterL preI (launchContents m c) (Proc.devRef .tc b) :=
  (after_of_writes_sub _ _ condOps_writes hc).trans (trips_keep m b hc hb c 300)

/-- The reference's result at an index: the result named in `Spec`. -/
theorem final_apply (i : Fin 300) (r : Fin 128) (w : Fin 224) :
    (finalContents condOps preI bodyI postI 300 m c (Proc.devRef .tc main_v65) : FVec Ideal S300x128x224 .f32) (ix3 i r w)
      = result (vec (scoresAt (launchContents m c))) (masks (launchContents m c (Proc.devRef .tc main_arg1))) i r w := by
  have hv : (finalContents condOps preI bodyI postI 300 m c (Proc.devRef .tc main_v65) : FVec Ideal S300x128x224 .f32)
      = mulf (soft (masksAt (launchContents m c))) (broadcastInDim S300x128x224 ![0, 1, 2] bcast_S300x1x1_S300x128x224_0_1_2 (broadcastInDim S300x1x1 ![0] bcast_S300_S300x1x1_0
        (mulf (mulf (atK m 300 c (Proc.devRef .tc main_v59_3)) (uitofp .f32 (flags (above (pickedAt (launchContents m c)))))) (pickedAt (launchContents m c))))) := by
    unfold finalContents
    rw [afterL_cons, afterL_nil, s7_v65, last_keep m c main_v42 (by decide) (by decide +kernel), last_keep m c main_v36 (by decide) (by decide +kernel),
      last_keep m c main_v21 (by decide) (by decide +kernel), pre_v42, pre_v36, pre_v21,
      after_of_writes_sub (r := main_v59_3) _ _ condOps_writes (by decide)]
  rw [hv]
  refine weigh_result _ _ _ (scoresAt (launchContents m c)) _ (fun i => ?_) (pickedAt_vec _) (masksAt_masks _) i r w
  rw [← square_entry]
  exact congrFun (trips m c 300 le_rfl).2.2 i

end loop

end Cert.Proof.Ref

end
-- ==== Proof.Equation.lean ====
/-
  The kernel and the reference compute the same array over the extended reals.
-/
module

public import proofs.«01_k».proof.Defs
public import proofs.«01_k».proof.Proof.Frames
public import proofs.«01_k».proof.Proof.KResult
public import proofs.«01_k».proof.Proof.RefResult

@[expose] public section

set_option maxRecDepth 16384

noncomputable section

namespace Cert.Proof

open Idealize.ShloMosaic Idealize.ShloMosaic.TcCoe Idealize.SL.Sem

/-- The array both programs compute, from the logits and the masks. -/
def answer (a : FVec Ideal Cert.KernelIdeal.S300x41 .f32) (x : FVec Ideal Cert.KernelIdeal.S300x128x224 .f32) : FVec Ideal Cert.KernelIdeal.S300x128x224 .f32 :=
  fun j => result (fun i => scoresOf (F := Ideal) a (ix1 i)) (masksOf x) (j 0) (j 1) (j 2)

/-- An index of the masks is its three coordinates. -/
theorem index_eq (j : Cert.KernelIdeal.S300x128x224.Idx) : ∃ (i : Fin 300) (r : Fin 128) (w : Fin 224), j = ix3 i r w :=
  ⟨j 0, j 1, j 2, funext fun a => match a with | ⟨0, _⟩ => rfl | ⟨1, _⟩ => rfl | ⟨2, _⟩ => rfl⟩

/-- What the kernel leaves is the answer. -/
theorem kernel_answer (m : (ℓ : Loc Cert.KernelIdeal.nD Cert.KernelIdeal.τ Cert.KernelIdeal.sig) → Buf (Elt Ideal) ℓ) (c : Dev Cert.KernelIdeal.nD)
    {g : Buf (Elt Ideal) ((c.tc : Thread Cert.KernelIdeal.nD Cert.KernelIdeal.τ).loc Cert.KernelIdeal.main_v14)} (h : Written c (msOf m c) (blksOf m c) g) :
    g = answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  funext j
  obtain ⟨i, r, w, rfl⟩ := index_eq j
  refine (written_result c h (m ((c.tc : Thread Cert.KernelIdeal.nD Cert.KernelIdeal.τ).loc Cert.KernelIdeal.main_arg1)) (fun s u r i w => blksOf_apply m c s u r i w) i r w).trans ?_
  rw [show scoreOf (msOf m c) = fun i => scoresOf (F := Ideal) (m ((c.tc : Thread Cert.KernelIdeal.nD Cert.KernelIdeal.τ).loc Cert.KernelIdeal.main_arg0)) (ix1 i) from
    funext fun i => msOf_apply m c i]
  rfl

/-- What the reference leaves is the answer. -/
theorem reference_answer (m : (ℓ : Loc Cert.ReferenceIdeal.nD Cert.ReferenceIdeal.τ Cert.ReferenceIdeal.sig) → Buf (Elt Ideal) ℓ) (c : Dev Cert.ReferenceIdeal.nD) :
    StableHlo.finalContents Cert.ReferenceIdeal.Value.condOps Cert.ReferenceIdeal.Value.preI Cert.ReferenceIdeal.Value.bodyI Cert.ReferenceIdeal.Value.postI 300 m c
        (Proc.devRef .tc Cert.ReferenceIdeal.main_v65)
      = answer (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) := by
  funext j
  obtain ⟨i, r, w, rfl⟩ := index_eq j
  exact Ref.final_apply m c i r w

/-- From equal arguments both end with the same array. -/
theorem equation : Cert.algebraic_KernelIdeal_ReferenceIdeal := fun m g m' g' _ hm =>
  ⟨fun c => answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run Cert.KernelIdeal.defs _ _).mono (fun _ h c => ⟨kernel_answer m c (h.1 c).2.2, (h.1 c).1, (h.1 c).2.1⟩) (run_main (F := Ideal) m g),
    (θ_run Cert.ReferenceIdeal.defs _ _).mono (fun _ h c => by
      refine ⟨((h.1 c).1.trans (reference_answer m' c)).trans ?_, (h.1 c).2.1, (h.1 c).2.2⟩
      rw [(hm c).1, (hm c).2]) (Ref.run_main (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨frame_kernel, frame_kernelIdeal, frame_referenceIdeal, trivial, equation⟩⟩

end Cert.Proof

end
